-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_operands [hPre_finite_operands : Cert.Pre_finite_operands.Facts] (m : (ℓ : Loc Cert.KernelIdeal.nD Cert.KernelIdeal.τ Cert.KernelIdeal.sig) → Buf (Elt Ideal) ℓ) : Prop :=
  ∀ c : Dev Cert.KernelIdeal.nD,
    (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_operands [hPre_finite_operands : Cert.Pre_finite_operands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_operands [hKernelIdeal : Cert.KernelIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_operands m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_operands [hReferenceIdeal : Cert.ReferenceIdeal.Facts] [hPre_finite_operands : Cert.Pre_finite_operands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_operands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_operands [hKernelIdeal : Cert.KernelIdeal.Facts] [hReferenceIdeal : Cert.ReferenceIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_operands m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_operands : Cert.Pre_finite_operands.Facts),
    quiescent_Kernel (hKernel := hKernel)
    ∧ quiescent_KernelIdeal (hKernelIdeal := hKernelIdeal)
    ∧ quiescent_KernelIdeal_pre_finite_operands (hKernelIdeal := hKernelIdeal) (hPre_finite_operands := hPre_finite_operands)
    ∧ quiescent_ReferenceIdeal (hReferenceIdeal := hReferenceIdeal)
    ∧ quiescent_ReferenceIdeal_pre_finite_operands (hReferenceIdeal := hReferenceIdeal) (hPre_finite_operands := hPre_finite_operands)
    ∧ preserves_Kernel_KernelIdeal
    ∧ algebraic_KernelIdeal_ReferenceIdeal_pre_finite_operands (hKernelIdeal := hKernelIdeal) (hReferenceIdeal := hReferenceIdeal) (hPre_finite_operands := hPre_finite_operands)
-- ==== Pre_finite_operands.lean ====
abbrev S50000x512 : Shape := ⟨2, ![50000, 512]⟩
abbrev S512x1 : Shape := ⟨2, ![512, 1]⟩
abbrev S1 : Shape := ⟨1, ![1]⟩
abbrev S512x512 : Shape := ⟨2, ![512, 512]⟩
abbrev S512 : Shape := ⟨1, ![512]⟩
abbrev S50000 : Shape := ⟨1, ![50000]⟩
abbrev S_ : Shape := ⟨0, ![]⟩

class Facts : Prop where
  bcast_S_S50000x512 : S_.BroadcastsInDim S50000x512 (![] : Fin 0 → Fin S50000x512.rank)
  bcast_S_S512x1 : S_.BroadcastsInDim S512x1 (![] : Fin 0 → Fin S512x1.rank)
  bcast_S_S1 : S_.BroadcastsInDim S1 (![] : Fin 0 → Fin S1.rank)
  bcast_S_S512x512 : S_.BroadcastsInDim S512x512 (![] : Fin 0 → Fin S512x512.rank)

variable [Facts]

def fn {F : FTy → Type} [FloatOps F] (main_arg0 : FVec F S50000x512 .f32) (main_arg1 : FVec F S512x1 .f32) (main_arg2 : FVec F S1 .f32) (main_arg3 : FVec F S512x512 .f32) (main_arg4 : FVec F S512 .f32) (main_arg5 : IVec S50000 32) : IVec S50000x512 1 × IVec S512x1 1 × IVec S1 1 × IVec S512x512 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_v3 : FVec F S512x1 .f32 := Host.absf main_arg1
  let main_cst_0 : FVec F S_ .f32 := constant S_ .f32 0x7F800000#32
  let main_v4 : FVec F S512x1 .f32 := broadcastInDim S512x1 ![] bcast_S_S512x1 main_cst_0
  let main_v5 : IVec S512x1 1 := cmpf .olt main_v3 main_v4
  let main_v6 : FVec F S1 .f32 := Host.absf main_arg2
  let main_cst_1 : FVec F S_ .f32 := constant S_ .f32 0x7F800000#32
  let main_v7 : FVec F S1 .f32 := broadcastInDim S1 ![] bcast_S_S1 main_cst_1
  let main_v8 : IVec S1 1 := cmpf .olt main_v6 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  (main_v2, main_v5, main_v8, main_v11)
-- ==== Kernel.lean ====
abbrev S50000x512 : Shape := ⟨2, ![50000, 512]⟩
abbrev S512x1 : Shape := ⟨2, ![512, 1]⟩
abbrev S1 : Shape := ⟨1, ![1]⟩
abbrev S512x512 : Shape := ⟨2, ![512, 512]⟩
abbrev S512 : Shape := ⟨1, ![512]⟩
abbrev S50000 : Shape := ⟨1, ![50000]⟩
abbrev S5x1x10000 : Shape := ⟨3, ![5, 1, 10000]⟩
abbrev S1x512 : Shape := ⟨2, ![1, 512]⟩
abbrev S256x512 : Shape := ⟨2, ![256, 512]⟩
abbrev S10000x512 : Shape := ⟨2, ![10000, 512]⟩
abbrev S1x1x10000 : Shape := ⟨3, ![1, 1, 10000]⟩
abbrev S1x1 : Shape := ⟨2, ![1, 1]⟩
abbrev S256x1 : Shape := ⟨2, ![256, 1]⟩
abbrev S1x10000 : Shape := ⟨2, ![1, 10000]⟩
abbrev S10000x1 : Shape := ⟨2, ![10000, 1]⟩
abbrev S1x1x1 : Shape := ⟨3, ![1, 1, 1]⟩
abbrev S256x10000 : Shape := ⟨2, ![256, 10000]⟩
abbrev S256 : Shape := ⟨1, ![256]⟩

abbrev nBuf : Space → Nat
  | .hbm => 10
  | .vmem => 10
  | .smem => 1
  | _ => 0

abbrev bufTy : (tb : Table) → Fin (tcTables nBuf tb) → BufTy
  | .hbm, ⟨0, _⟩ => ⟨S50000x512, .f32⟩
  | .hbm, ⟨1, _⟩ => ⟨S512x1, .f32⟩
  | .hbm, ⟨2, _⟩ => ⟨S1, .f32⟩
  | .hbm, ⟨3, _⟩ => ⟨S512x512, .f32⟩
  | .hbm, ⟨4, _⟩ => ⟨S512, .f32⟩
  | .hbm, ⟨5, _⟩ => ⟨S50000, .i32⟩
  | .hbm, ⟨6, _⟩ => ⟨S5x1x10000, .i32⟩
  | .hbm, ⟨7, _⟩ => ⟨S1x512, .f32⟩
  | .hbm, ⟨8, _⟩ => ⟨S512x1, .bf16⟩
  | .hbm, ⟨9, _⟩ => ⟨S256x512, .f32⟩
  | .local _ .vmem, ⟨0, _⟩ => ⟨S10000x512, .f32⟩
  | .local _ .vmem, ⟨1, _⟩ => ⟨S10000x512, .f32⟩
  | .local _ .vmem, ⟨2, _⟩ => ⟨S1x1x10000, .i32⟩
  | .local _ .vmem, ⟨3, _⟩ => ⟨S1x1x10000, .i32⟩
  | .local _ .vmem, ⟨4, _⟩ => ⟨S512x1, .bf16⟩
  | .local _ .vmem, ⟨5, _⟩ => ⟨S512x512, .f32⟩
  | .local _ .vmem, ⟨6, _⟩ => ⟨S1x512, .f32⟩
  | .local _ .vmem, ⟨7, _⟩ => ⟨S256x512, .f32⟩
  | .local _ .vmem, ⟨8, _⟩ => ⟨S256x1, .f32⟩
  | .local _ .vmem, ⟨9, _⟩ => ⟨S256x512, .f32⟩
  | .local _ .smem, ⟨0, _⟩ => ⟨S1x1, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![5], ![false]⟩

def k0_cond3 (i : grid0.Coords) : BitVec 1 :=
  let arg0 : BitVec 32 := BitVec.ofNat 32 (i 0).val
  let c4_i32 : BitVec 32 := 4#32
  let v44 : BitVec 1 := Scalar.cmpi .eq arg0 c4_i32
  let v45 : BitVec 32 := Scalar.extui v44
  let c0_i32_22 : BitVec 32 := 0#32
  let v46 : BitVec 1 := Scalar.cmpi .ne v45 c0_i32_22
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x10000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S50000x512 : Shape := ⟨2, ![50000, 512]⟩
abbrev S512x1 : Shape := ⟨2, ![512, 1]⟩
abbrev S1 : Shape := ⟨1, ![1]⟩
abbrev S512x512 : Shape := ⟨2, ![512, 512]⟩
abbrev S512 : Shape := ⟨1, ![512]⟩
abbrev S50000 : Shape := ⟨1, ![50000]⟩
abbrev S50000x1 : Shape := ⟨2, ![50000, 1]⟩
abbrev S1x1 : Shape := ⟨2, ![1, 1]⟩
abbrev S1x512 : Shape := ⟨2, ![1, 512]⟩
abbrev S256 : Shape := ⟨1, ![256]⟩
abbrev S256x1 : Shape := ⟨2, ![256, 1]⟩
abbrev S1x50000 : Shape := ⟨2, ![1, 50000]⟩
abbrev S256x50000 : Shape := ⟨2, ![256, 50000]⟩
abbrev S_ : Shape := ⟨0, ![]⟩
abbrev S256x512 : Shape := ⟨2, ![256, 512]⟩

abbrev nBuf : Space → Nat
  | .hbm => 69
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x1, .f32⟩
  | .hbm, ⟨2, _⟩ => ⟨S1, .f32⟩
  | .hbm, ⟨3, _⟩ => ⟨S512x512, .f32⟩
  | .hbm, ⟨4, _⟩ => ⟨S512, .f32⟩
  | .hbm, ⟨5, _⟩ => ⟨S50000, .i32⟩
  | .hbm, ⟨6, _⟩ => ⟨S50000x1, .f32⟩
  | .hbm, ⟨7, _⟩ => ⟨S1x1, .f32⟩
  | .hbm, ⟨8, _⟩ => ⟨S50000x1, .f32⟩
  | .hbm, ⟨9, _⟩ => ⟨S50000x1, .f32⟩
  | .hbm, ⟨10, _⟩ => ⟨S50000x512, .f32⟩
  | .hbm, ⟨11, _⟩ => ⟨S1x512, .f32⟩
  | .hbm, ⟨12, _⟩ => ⟨S50000x512, .f32⟩
  | .hbm, ⟨13, _⟩ => ⟨S50000x512, .f32⟩
  | .hbm, ⟨14, _⟩ => ⟨S50000, .f32⟩
  | .hbm, ⟨15, _⟩ => ⟨S256, .i32⟩
  | .hbm, ⟨16, _⟩ => ⟨S256x1, .i32⟩
  | .hbm, ⟨17, _⟩ => ⟨S1x50000, .i32⟩
  | .hbm, ⟨18, _⟩ => ⟨S256x50000, .i32⟩
  | .hbm, ⟨19, _⟩ => ⟨S256x50000, .i32⟩
  | .hbm, ⟨20, _⟩ => ⟨S256x50000, .i1⟩
  | .hbm, ⟨21, _⟩ => ⟨S1x50000, .f32⟩
  | .hbm, ⟨22, _⟩ => ⟨S_, .f32⟩
  | .hbm, ⟨23, _⟩ => ⟨S_, .f32⟩
  | .hbm, ⟨24, _⟩ => ⟨S256x50000, .f32⟩
  | .hbm, ⟨25, _⟩ => ⟨S256x50000, .f32⟩
  | .hbm, ⟨26, _⟩ => ⟨S256x50000, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S_, .f32⟩
  | .hbm, ⟨31, _⟩ => ⟨S256, .f32⟩
  | .hbm, ⟨32, _⟩ => ⟨S256, .i1⟩
  | .hbm, ⟨33, _⟩ => ⟨S_, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S_, .i32⟩
  | .hbm, ⟨38, _⟩ => ⟨S50000, .i32⟩
  | .hbm, ⟨39, _⟩ => ⟨S50000, .i1⟩
  | .hbm, ⟨40, _⟩ => ⟨S_, .i32⟩
  | .hbm, ⟨41, _⟩ => ⟨S50000, .i32⟩
  | .hbm, ⟨42, _⟩ => ⟨S50000, .i32⟩
  | .hbm, ⟨43, _⟩ => ⟨S50000, .i32⟩
  | .hbm, ⟨44, _⟩ => ⟨S50000x1, .i32⟩
  | .hbm, ⟨45, _⟩ => ⟨S50000, .f32⟩
  | .hbm, ⟨46, _⟩ => ⟨S50000, .f32⟩
  | .hbm, ⟨47, _⟩ => ⟨S50000, .f32⟩
  | .hbm, ⟨48, _⟩ => ⟨S_, .f32⟩
  | .hbm, ⟨49, _⟩ => ⟨S256, .f32⟩
  | .hbm, ⟨50, _⟩ => ⟨S50000x1, .i32⟩
  | .hbm, ⟨51, _⟩ => ⟨S256, .f32⟩
  | .hbm, ⟨52, _⟩ => ⟨S_, .i32⟩
  | .hbm, ⟨53, _⟩ => ⟨S50000, .i32⟩
  | .hbm, ⟨54, _⟩ => ⟨S50000, .i1⟩
  | .hbm, ⟨55, _⟩ => ⟨S_, .i32⟩
  | .hbm, ⟨56, _⟩ => ⟨S50000, .i32⟩
  | .hbm, ⟨57, _⟩ => ⟨S50000, .i32⟩
  | .hbm, ⟨58, _⟩ => ⟨S50000, .i32⟩
  | .hbm, ⟨59, _⟩ => ⟨S50000x1, .i32⟩
  | .hbm, ⟨60, _⟩ => ⟨S50000, .f32⟩
  | .hbm, ⟨61, _⟩ => ⟨S50000, .f32⟩
  | .hbm, ⟨62, _⟩ => ⟨S50000x1, .f32⟩
  | .hbm, ⟨63, _⟩ => ⟨S50000x512, .f32⟩
  | .hbm, ⟨64, _⟩ => ⟨S50000x512, .f32⟩
  | .hbm, ⟨65, _⟩ => ⟨S_, .f32⟩
  | .hbm, ⟨66, _⟩ => ⟨S256x512, .f32⟩
  | .hbm, ⟨67, _⟩ => ⟨S50000x1, .i32⟩
  | .hbm, ⟨68, _⟩ => ⟨S256x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_call1_v0 : Ref sig .tc := ⟨.hbm, 34, rfl⟩
abbrev main_call1_v1 : Ref sig .tc := ⟨.hbm, 35, rfl⟩
abbrev main_v21 : Ref sig .tc := ⟨.hbm, 36, rfl⟩
abbrev main_c : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]
-- ==== Proof.KI.State.lean ====
/- What the kernel carries between grid points, as functions of the blocks it is called with: the running maximum,
   the denominators and the weighted sums, how one point changes them, and what the last point stores. -/
module

public import proofs.«01_k».proof.Proof.Gen.KernelIdeal.Skeleton
public import proofs.«01_k».proof.Proof.Gen.KernelIdeal.Points
public import proofs.«01_k».proof.Proof.Gen.KernelIdeal.Frame

@[expose] public section

noncomputable section

namespace Cert.KernelIdeal.Pool

open Cert.KernelIdeal Cert.KernelIdeal.Gen
open Idealize.ShloMosaic Idealize.ShloMosaic.TcCoe

variable {F : FTy → Type} [FloatOps F]

/-- The carried state: the running maximum, the segments' denominators, the segments' weighted feature sums. -/
structure St (F : FTy → Type) where
  mx : Vec F S1x1 .f32
  den : Vec F S256x1 .f32
  sum : Vec F S256x512 .f32

/-- The one entry of a 1×1 vector. -/
abbrev one1 : S1x1.Idx := Shape.Idx.first (by decide)

/-- The state the first point starts from: the literal `-1e30`, and zeros. -/
def st0 : St F := ⟨fun _ => Scalar.ofBits .f32 0xF149F2CA#32, k0_pay4, k0_pay5⟩

/-- Whether the block's gates raise the running maximum `a`. -/
def grows (x : Vec F S10000x512 .f32) (wg : Vec F S512x1 .bf16) (a : Elt F .f32) : Prop :=
  Scalar.cmpi .ne (Scalar.extui (Scalar.cmpf .ogt (k0_pay8 x wg a) a)) 0#32 = 1#1

/-- Whether a block's maximum grows is decidable. -/
instance (x : Vec F S10000x512 .f32) (wg : Vec F S512x1 .bf16) (a : Elt F .f32) : Decidable (grows x wg a) := by
  unfold grows; infer_instance

/-- The rescaled state: unchanged unless the block raises the maximum. -/
def rescale (x : Vec F S10000x512 .f32) (wg : Vec F S512x1 .bf16) (s : St F) : St F :=
  if grows x wg (s.mx one1) then
    ⟨fun _ => k0_pay8 x wg (s.mx one1), k0_pay10 x wg (s.mx one1) s.den, k0_pay11 x wg (s.mx one1) s.sum⟩
  else s

/-- One point: rescale, then add the block's weights to the denominators and its weighted rows to the sums. -/
def step (x : Vec F S10000x512 .f32) (ids : Vec F S1x1x10000 .i32) (wg : Vec F S512x1 .bf16) (s : St F) : St F :=
  ⟨(rescale x wg s).mx, k0_pay1 (k0_pay14 x ids wg (s.mx one1) (rescale x wg s).den),
    k0_pay2 (k0_pay6 x) (k0_pay13 x ids wg (s.mx one1)) (rescale x wg s).sum⟩

/-- What the last point stores, from the state it leaves. -/
def pooled (wf : Vec F S512x512 .f32) (b : Vec F S1x512 .f32) (s : St F) : Vec F S256x512 .f32 := k0_pay3 s.den s.sum wf b

end Cert.KernelIdeal.Pool

end
-- ==== Proof.KI.Reads.lean ====
module

public import proofs.«01_k».proof.Proof.KI.State
public import Idealize.ShloMosaic.Lib.Pipeline.FrameBody
public import Idealize.ShloMosaic.Lib.Pipeline.Value
public import Idealize.ShloMosaic.Lib.Tactic

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The zero offset of a matrix, as the constant function. -/
theorem hz2 : (![0, 0] : Fin 2 → ℕ) = fun _ => 0 := funext fun a => by fin_cases a <;> rfl
/-- The zero offset of an array of three axes, as the constant function. -/
theorem hz3 : (![0, 0, 0] : Fin 3 → ℕ) = fun _ => 0 := funext fun a => by fin_cases a <;> rfl

/-- A view read back after a store over the whole of it holds what was stored. -/
theorem read_store {sp : Space} {S : Shape} {e : EltTy} {v : View sig .tc sp S e} {off : Fin S.rank → ℕ} (h : off = fun _ => 0)
    (inb : ∀ a, off a + S.size a ≤ S.size a) (w : S.Idx → Elt F e) (f : v.ty.Contents (Elt F)) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩), View.canon_cons_unit_zero h]

/-- A load of the only entry of a one by one array. -/
theorem ld_one {e : EltTy} (x : S1x1.Idx → Elt F e) (inb : ∀ a, (![0, 0] : Fin 2 → ℕ) a + (![1, 1] : Fin 2 → ℕ) a ≤ S1x1.size a) :
    View.ld (Val := Elt F) x (Rect.unit (s := S1x1) ![0, 0] ![1, 1] inb) = fun _ => x one1 :=
  funext fun y => congrArg x (funext fun a => by fin_cases a <;> exact Subsingleton.elim (α := Fin 1) _ _)

/-- The kernel's test for the first grid point. -/
abbrev first (i : grid0.Coords) : Prop := (Scalar.cmpi .ne (Scalar.extui (Scalar.cmpi .eq (BitVec.ofNat 32 (i 0).val) 0#32)) 0#32) = 1#1
/-- The kernel's test for the last grid point. -/
abbrev last (i : grid0.Coords) : Prop := k0_cond3 i = 1#1

end Cert.KernelIdeal.Pool

end
-- ==== Proof.KI.RunFirst.lean ====
module

public import proofs.«01_k».proof.Proof.KI.Reads
public import Idealize.ShloMosaic.Lib.Pipeline.FrameBody
public import Idealize.ShloMosaic.Lib.Pipeline.Value
public import Idealize.ShloMosaic.Lib.Tactic

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1200000 in
/-- The body at the first grid point: it clears the state, then steps it over the first block; the result's buffer keeps what it held. -/
theorem run_first (c : Dev nD) (i : grid0.Coords) (arg1 : Memref sig .tc .vmem S10000x512 .f32) (harg1 : arg1.IsWhole) (arg2 : Memref sig .tc .vmem S1x1x10000 .i32) (harg2 : arg2.IsWhole) (arg3 : Memref sig .tc .vmem S512x1 .bf16) (harg3 : arg3.IsWhole) (arg4 : Memref sig .tc .vmem S512x512 .f32) (harg4 : arg4.IsWhole) (arg5 : Memref sig .tc .vmem S1x512 .f32) (harg5 : arg5.IsWhole) (arg6 : Memref sig .tc .vmem S256x512 .f32) (harg6 : arg6.IsWhole) (arg7 : Memref sig .tc .smem S1x1 .f32) (harg7 : arg7.IsWhole) (arg8 : Memref sig .tc .vmem S256x1 .f32) (harg8 : arg8.IsWhole) (arg9 : Memref sig .tc .vmem S256x512 .f32) (harg9 : arg9.IsWhole) (hc0 : first i) (hc1 : ¬last i)
    (x0 : Vec F S10000x512 .f32) (x1 : Vec F S1x1x10000 .i32) (x2 : Vec F S512x1 .bf16) (x3 : Vec F S512x512 .f32) (x4 : Vec F S1x512 .f32) (d : St F)
      (xi5 : Vec F S256x512 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare d.mx ∗ owns (c : Thread nD τ) arg8 fullShare d.den ∗ owns (c : Thread nD τ) arg9 fullShare d.sum
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare (step x0 x1 x2 st0).mx ∗ owns (c : Thread nD τ) arg8 fullShare (step x0 x1 x2 st0).den ∗ owns (c : Thread nD τ) arg9 fullShare (step x0 x1 x2 st0).sum) -∗ K ⟨⟩))
          ⊢ wp frame (wpE (defs₀ (F := F)) Variants.none c none) E (cc0__pool_kernel i arg1 harg1 arg2 harg2 arg3 harg3 arg4 harg4 arg5 harg5 arg6 harg6 arg7 harg7 arg8 harg8 arg9 harg9) K := by
    simp only [cc0__pool_kernel_eq_skeleton]; unfold cc0__pool_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [HS0]
    · iexists _; isplitr
      swap; · iexact HS0
      ipureintro
      sl_unfold_words
      simp only [View.readAt_eq_ld, View.ld_unit_zero (S := S10000x512) hz2, View.ld_unit_zero (S := S512x1) hz2, View.ld_unit_zero (S := S256x1) hz2, View.ld_unit_zero (S := S256x512) hz2, View.ld_unit_zero (S := S1x1x10000) hz3, hf0, hf1, hf2]
      split <;> rename_i h'
      · have h : grows x0 x2 ((st0 (F := F)).mx one1) := h'
        simp only [step, rescale, if_pos h, read_store (S := S1x1) hz2, View.readCov_unit_zero (S := S256x1) _ hz2, View.readCov_unit_zero (S := S256x512) _ hz2]
        try rfl
      · have h : ¬grows x0 x2 ((st0 (F := F)).mx one1) := h'
        simp only [step, rescale, if_neg h, read_store (S := S1x1) hz2]
        try rfl
    isplitl [HS1]
    · iexists _; isplitr
      swap; · iexact HS1
      ipureintro
      sl_unfold_words
      simp only [View.readAt_eq_ld, View.ld_unit_zero (S := S10000x512) hz2, View.ld_unit_zero (S := S512x1) hz2, View.ld_unit_zero (S := S256x1) hz2, View.ld_unit_zero (S := S256x512) hz2, View.ld_unit_zero (S := S1x1x10000) hz3, hf0, hf1, hf2]
      simp only [read_store (S := S256x1) hz2]
      split <;> rename_i h'
      · have h : grows x0 x2 ((st0 (F := F)).mx one1) := h'
        simp only [step, rescale, if_pos h, read_store (S := S256x1) hz2, View.readCov_unit_zero (S := S256x1) _ hz2, View.readCov_unit_zero (S := S256x512) _ hz2]
        try rfl
      · have h : ¬grows x0 x2 ((st0 (F := F)).mx one1) := h'
        simp only [step, rescale, if_neg h, read_store (S := S256x1) hz2]
        try rfl
    iexists _; isplitr
    swap; · iexact HS2
    ipureintro
    sl_unfold_words
    simp only [View.readAt_eq_ld, View.ld_unit_zero (S := S10000x512) hz2, View.ld_unit_zero (S := S512x1) hz2, View.ld_unit_zero (S := S256x1) hz2, View.ld_unit_zero (S := S256x512) hz2, View.ld_unit_zero (S := S1x1x10000) hz3, hf0, hf1, hf2]
    simp only [read_store (S := S256x512) hz2]
    split <;> rename_i h'
    · have h : grows x0 x2 ((st0 (F := F)).mx one1) := h'
      simp only [step, rescale, if_pos h, read_store (S := S256x512) hz2, View.readCov_unit_zero (S := S256x1) _ hz2, View.readCov_unit_zero (S := S256x512) _ hz2]
      try rfl
    · have h : ¬grows x0 x2 ((st0 (F := F)).mx one1) := h'
      simp only [step, rescale, if_neg h, read_store (S := S256x512) hz2]
      try rfl

end Cert.KernelIdeal.Pool

end
-- ==== Proof.KI.RunMid.lean ====
module

public import proofs.«01_k».proof.Proof.KI.Reads
public import Idealize.ShloMosaic.Lib.Pipeline.FrameBody
public import Idealize.ShloMosaic.Lib.Pipeline.Value
public import Idealize.ShloMosaic.Lib.Tactic

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1200000 in
/-- The body at a point neither first nor last: it steps the state over its block; the result's buffer keeps what it held. -/
theorem run_mid (c : Dev nD) (i : grid0.Coords) (arg1 : Memref sig .tc .vmem S10000x512 .f32) (harg1 : arg1.IsWhole) (arg2 : Memref sig .tc .vmem S1x1x10000 .i32) (harg2 : arg2.IsWhole) (arg3 : Memref sig .tc .vmem S512x1 .bf16) (harg3 : arg3.IsWhole) (arg4 : Memref sig .tc .vmem S512x512 .f32) (harg4 : arg4.IsWhole) (arg5 : Memref sig .tc .vmem S1x512 .f32) (harg5 : arg5.IsWhole) (arg6 : Memref sig .tc .vmem S256x512 .f32) (harg6 : arg6.IsWhole) (arg7 : Memref sig .tc .smem S1x1 .f32) (harg7 : arg7.IsWhole) (arg8 : Memref sig .tc .vmem S256x1 .f32) (harg8 : arg8.IsWhole) (arg9 : Memref sig .tc .vmem S256x512 .f32) (harg9 : arg9.IsWhole) (hc0 : ¬first i) (hc1 : ¬last i)
    (x0 : Vec F S10000x512 .f32) (x1 : Vec F S1x1x10000 .i32) (x2 : Vec F S512x1 .bf16) (x3 : Vec F S512x512 .f32) (x4 : Vec F S1x512 .f32) (s : St F)
      (xi5 : Vec F S256x512 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare s.mx ∗ owns (c : Thread nD τ) arg8 fullShare s.den ∗ owns (c : Thread nD τ) arg9 fullShare s.sum
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare (step x0 x1 x2 s).mx ∗ owns (c : Thread nD τ) arg8 fullShare (step x0 x1 x2 s).den ∗ owns (c : Thread nD τ) arg9 fullShare (step x0 x1 x2 s).sum) -∗ K ⟨⟩))
          ⊢ wp frame (wpE (defs₀ (F := F)) Variants.none c none) E (cc0__pool_kernel i arg1 harg1 arg2 harg2 arg3 harg3 arg4 harg4 arg5 harg5 arg6 harg6 arg7 harg7 arg8 harg8 arg9 harg9) K := by
    simp only [cc0__pool_kernel_eq_skeleton]; unfold cc0__pool_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [HS0]
    · iexists _; isplitr
      swap; · iexact HS0
      ipureintro
      sl_unfold_words
      simp only [View.readAt_eq_ld, View.ld_unit_zero (S := S10000x512) hz2, View.ld_unit_zero (S := S512x1) hz2, View.ld_unit_zero (S := S256x1) hz2, View.ld_unit_zero (S := S256x512) hz2, ld_one, View.ld_unit_zero (S := S1x1x10000) hz3, hf0, hf1, hf2, hfs0, hfs1, hfs2]
      rw [ld_one s.mx]; beta_reduce
      by_cases h : grows x0 x2 (s.mx one1)
      · have h' := h; unfold grows at h'; rw [dif_pos h']; simp only [step, rescale, if_pos h, read_store (S := S1x1) hz2]; rfl
      · have h' := h; unfold grows at h'; rw [dif_neg h']; simp only [step, rescale, if_neg h, hfs0]
    isplitl [HS1]
    · iexists _; isplitr
      swap; · iexact HS1
      ipureintro
      sl_unfold_words
      simp only [View.readAt_eq_ld, View.ld_unit_zero (S := S10000x512) hz2, View.ld_unit_zero (S := S512x1) hz2, View.ld_unit_zero (S := S256x1) hz2, View.ld_unit_zero (S := S256x512) hz2, ld_one, View.ld_unit_zero (S := S1x1x10000) hz3, hf0, hf1, hf2, hfs0, hfs1, hfs2]
      simp only [read_store (S := S256x1) hz2]
      rw [ld_one s.mx]; beta_reduce
      by_cases h : grows x0 x2 (s.mx one1)
      · have h' := h; unfold grows at h'; rw [dif_pos h']; simp only [step, rescale, if_pos h, read_store (S := S256x1) hz2]
      · have h' := h; unfold grows at h'; rw [dif_neg h']; simp only [step, rescale, if_neg h, hfs1]
    iexists _; isplitr
    swap; · iexact HS2
    ipureintro
    sl_unfold_words
    simp only [View.readAt_eq_ld, View.ld_unit_zero (S := S10000x512) hz2, View.ld_unit_zero (S := S512x1) hz2, View.ld_unit_zero (S := S256x1) hz2, View.ld_unit_zero (S := S256x512) hz2, ld_one, View.ld_unit_zero (S := S1x1x10000) hz3, hf0, hf1, hf2, hfs0, hfs1, hfs2]
    simp only [read_store (S := S256x512) hz2]
    rw [ld_one s.mx]; beta_reduce
    by_cases h : grows x0 x2 (s.mx one1)
    · have h' := h; unfold grows at h'; rw [dif_pos h']; simp only [step, rescale, if_pos h, read_store (S := S256x512) hz2]
    · have h' := h; unfold grows at h'; rw [dif_neg h']; simp only [step, rescale, if_neg h, hfs2]

end Cert.KernelIdeal.Pool

end
-- ==== Proof.KI.RunLast.lean ====
module

public import proofs.«01_k».proof.Proof.KI.Reads
public import Idealize.ShloMosaic.Lib.Pipeline.FrameBody
public import Idealize.ShloMosaic.Lib.Pipeline.Value
public import Idealize.ShloMosaic.Lib.Tactic

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1200000 in
/-- The body at the last grid point: it steps the state over the last block and writes the pooled state into the result's buffer. -/
theorem run_last (c : Dev nD) (i : grid0.Coords) (arg1 : Memref sig .tc .vmem S10000x512 .f32) (harg1 : arg1.IsWhole) (arg2 : Memref sig .tc .vmem S1x1x10000 .i32) (harg2 : arg2.IsWhole) (arg3 : Memref sig .tc .vmem S512x1 .bf16) (harg3 : arg3.IsWhole) (arg4 : Memref sig .tc .vmem S512x512 .f32) (harg4 : arg4.IsWhole) (arg5 : Memref sig .tc .vmem S1x512 .f32) (harg5 : arg5.IsWhole) (arg6 : Memref sig .tc .vmem S256x512 .f32) (harg6 : arg6.IsWhole) (arg7 : Memref sig .tc .smem S1x1 .f32) (harg7 : arg7.IsWhole) (arg8 : Memref sig .tc .vmem S256x1 .f32) (harg8 : arg8.IsWhole) (arg9 : Memref sig .tc .vmem S256x512 .f32) (harg9 : arg9.IsWhole) (hc0 : ¬first i) (hc1 : last i)
    (x0 : Vec F S10000x512 .f32) (x1 : Vec F S1x1x10000 .i32) (x2 : Vec F S512x1 .bf16) (x3 : Vec F S512x512 .f32) (x4 : Vec F S1x512 .f32) (s : St F)
      (xi5 : Vec F S256x512 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare s.mx ∗ owns (c : Thread nD τ) arg8 fullShare s.den ∗ owns (c : Thread nD τ) arg9 fullShare s.sum
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (pooled x3 x4 (step x0 x1 x2 s)) ∗ owns (c : Thread nD τ) arg7 fullShare (step x0 x1 x2 s).mx ∗ owns (c : Thread nD τ) arg8 fullShare (step x0 x1 x2 s).den ∗ owns (c : Thread nD τ) arg9 fullShare (step x0 x1 x2 s).sum) -∗ K ⟨⟩))
          ⊢ wp frame (wpE (defs₀ (F := F)) Variants.none c none) E (cc0__pool_kernel i arg1 harg1 arg2 harg2 arg3 harg3 arg4 harg4 arg5 harg5 arg6 harg6 arg7 harg7 arg8 harg8 arg9 harg9) K := by
    simp only [cc0__pool_kernel_eq_skeleton]; unfold cc0__pool_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr
      swap; · iexact H5
      ipureintro
      sl_unfold_words
      simp only [View.readAt_eq_ld, View.ld_unit_zero (S := S10000x512) hz2, View.ld_unit_zero (S := S512x1) hz2, View.ld_unit_zero (S := S256x1) hz2, View.ld_unit_zero (S := S256x512) hz2, View.ld_unit_zero (S := S512x512) hz2, View.ld_unit_zero (S := S1x512) hz2, ld_one, View.ld_unit_zero (S := S1x1x10000) hz3, hf0, hf1, hf2, hf3, hf4, hfs0, hfs1, hfs2]
      simp only [read_store (S := S256x512) hz2, read_store (S := S256x1) hz2]
      rw [View.readCov_unit_zero (S := S256x1) _ hz2, View.readCov_unit_zero (S := S256x512) _ hz2]
      rw [ld_one s.mx]; beta_reduce
      by_cases h : grows x0 x2 (s.mx one1)
      · have h' := h; unfold grows at h'; rw [dif_pos h', dif_pos h']; simp only [read_store (S := S256x1) hz2, hfs1, pooled, step, rescale, if_pos h, read_store (S := S256x512) hz2]
      · have h' := h; unfold grows at h'; rw [dif_neg h', dif_neg h']; simp only [read_store (S := S256x1) hz2, hfs1, pooled, step, rescale, if_neg h, hfs1, hfs2]
    isplitl [HS0]
    · iexists _; isplitr
      swap; · iexact HS0
      ipureintro
      sl_unfold_words
      simp only [View.readAt_eq_ld, View.ld_unit_zero (S := S10000x512) hz2, View.ld_unit_zero (S := S512x1) hz2, View.ld_unit_zero (S := S256x1) hz2, View.ld_unit_zero (S := S256x512) hz2, ld_one, View.ld_unit_zero (S := S1x1x10000) hz3, hf0, hf1, hf2, hfs0, hfs1, hfs2]
      rw [ld_one s.mx]; beta_reduce
      by_cases h : grows x0 x2 (s.mx one1)
      · have h' := h; unfold grows at h'; rw [dif_pos h']; simp only [step, rescale, if_pos h, read_store (S := S1x1) hz2]; rfl
      · have h' := h; unfold grows at h'; rw [dif_neg h']; simp only [step, rescale, if_neg h, hfs0]
    isplitl [HS1]
    · iexists _; isplitr
      swap; · iexact HS1
      ipureintro
      sl_unfold_words
      simp only [View.readAt_eq_ld, View.ld_unit_zero (S := S10000x512) hz2, View.ld_unit_zero (S := S512x1) hz2, View.ld_unit_zero (S := S256x1) hz2, View.ld_unit_zero (S := S256x512) hz2, ld_one, View.ld_unit_zero (S := S1x1x10000) hz3, hf0, hf1, hf2, hfs0, hfs1, hfs2]
      simp only [read_store (S := S256x1) hz2]
      rw [ld_one s.mx]; beta_reduce
      by_cases h : grows x0 x2 (s.mx one1)
      · have h' := h; unfold grows at h'; rw [dif_pos h']; simp only [step, rescale, if_pos h, read_store (S := S256x1) hz2]
      · have h' := h; unfold grows at h'; rw [dif_neg h']; simp only [step, rescale, if_neg h, hfs1]
    iexists _; isplitr
    swap; · iexact HS2
    ipureintro
    sl_unfold_words
    simp only [View.readAt_eq_ld, View.ld_unit_zero (S := S10000x512) hz2, View.ld_unit_zero (S := S512x1) hz2, View.ld_unit_zero (S := S256x1) hz2, View.ld_unit_zero (S := S256x512) hz2, ld_one, View.ld_unit_zero (S := S1x1x10000) hz3, hf0, hf1, hf2, hfs0, hfs1, hfs2]
    simp only [read_store (S := S256x512) hz2]
    rw [ld_one s.mx]; beta_reduce
    by_cases h : grows x0 x2 (s.mx one1)
    · have h' := h; unfold grows at h'; rw [dif_pos h']; simp only [step, rescale, if_pos h, read_store (S := S256x512) hz2]
    · have h' := h; unfold grows at h'; rw [dif_neg h']; simp only [step, rescale, if_neg h, hfs2]

end Cert.KernelIdeal.Pool

end
-- ==== Proof.KI.Frame.lean ====
module

public import proofs.«01_k».proof.Proof.KI.RunFirst
public import proofs.«01_k».proof.Proof.KI.RunMid
public import proofs.«01_k».proof.Proof.KI.RunLast
public import proofs.«01_k».proof.Proof.Gen.KernelIdeal.Launch
public import Idealize.ShloMosaic.Lib.WordCmp
public import Idealize.ShloMosaic.Lib.Claim

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points are the first and the last -/

/-- The zeroing branch is taken at point 0 only. -/
theorem first_iff (t : Fin cfg0.N) : first (grid0.coords t) ↔ t.val = 0 := by
  have ht : t.val < 5 := Nat.lt_of_lt_of_eq t.isLt N_0
  have e0 : (grid0.coords t 0).val = t.val / 1 % 5 := Pipeline.Grid.coords_val t 0 (by decide) rfl
  have e1 : t.val / 1 % 5 = t.val := by omega
  simp only [first, e0, e1]
  word_cmp

/-- The write of the result is made at point 4 only. -/
theorem last_iff (t : Fin cfg0.N) : last (grid0.coords t) ↔ t.val = 4 := by
  have ht : t.val < 5 := Nat.lt_of_lt_of_eq t.isLt N_0
  have e0 : (grid0.coords t 0).val = t.val / 1 % 5 := Pipeline.Grid.coords_val t 0 (by decide) rfl
  have e1 : t.val / 1 % 5 = t.val := by omega
  simp only [last, k0_cond3, e0, e1]
  word_cmp

/-- Before the last point the result's block is not touched. -/
theorem idle_out : ∀ t : Fin cfg0.N, t.val ≠ 4 → cfg0.idle 5 (grid0.coords t) = true := by decide +kernel

/-- Before the last point the result's block is not written back. -/
theorem noFlush_out : ∀ t : Fin cfg0.N, t.val ≠ 4 → (cfg0.win 5).flush t = false := by decide +kernel

/-- At the last point the result's block is written. -/
theorem live_out : ∀ t : Fin cfg0.N, t.val = 4 → cfg0.idle 5 (grid0.coords t) = false := by decide +kernel

/-! ## The running state along the grid -/

/-- What the three scratch buffers hold before point `n`: the start, then one `step` a block. -/
def stIn (c : Dev nD) : (n : ℕ) → n ≤ cfg0.N → St F
  | 0, _ => st0
  | n + 1, h => step (iblk m c 0 ⟨n, h⟩) (iblk m c 1 ⟨n, h⟩) (iblk m c 2 ⟨n, h⟩) (stIn c n (Nat.le_of_succ_le h))

/-- The scratch buffers at the state `s`, and the generator register at some state. -/
def scratchAt (c : Dev nD) (s : St F) : sProp 𝕄 :=
  iprop(iprop(owns (c : Thread nD τ) (Memref.whole cc0_scratch1) fullShare s.den ∗ owns (c : Thread nD τ) (Memref.whole cc0_scratch2) fullShare s.sum ∗ owns (c : Thread nD τ) (Memref.whole cc0_scratch0) fullShare s.mx) ∗ (∃ r, prngReg c r))

/-- The invariant before point `n`: before the first the scratch is at anything, afterwards at the running state. -/
def PhiS (c : Dev nD) : (n : ℕ) → n ≤ cfg0.N → sProp 𝕄
  | 0, _ => Pipeline.ΦA spec0 c
  | n + 1, h => scratchAt c (stIn m c (n + 1) h)

/-- Before the first point the invariant is the launch's own resource. -/
theorem PhiS_zero (c : Dev nD) (n : ℕ) (h : n ≤ cfg0.N) (hz : n = 0) : PhiS m c n h = Pipeline.ΦA spec0 c := by
  subst hz; rfl

/-- After at least one point the invariant holds the scratch buffers at the running state. -/
theorem PhiS_pos (c : Dev nD) (n : ℕ) (h : n ≤ cfg0.N) (hz : n ≠ 0) : PhiS m c n h = scratchAt c (stIn m c n h) := by
  cases n with
  | zero => exact absurd rfl hz
  | succ n => rfl

/-- The launch's resource, with the scratch buffers spelled as the body's arguments. -/
theorem PhiA_eq (c : Dev nD) :
    (Pipeline.ΦA spec0 c : sProp 𝕄)
      = iprop(iprop((∃ d, owns (c : Thread nD τ) (Memref.whole cc0_scratch1) fullShare d) ∗ (∃ d, owns (c : Thread nD τ) (Memref.whole cc0_scratch2) fullShare d) ∗ (∃ d, owns (c : Thread nD τ) (Memref.whole cc0_scratch0) fullShare d)) ∗ (∃ r, prngReg c r)) := by
  unfold Pipeline.ΦA; rw [scopedRest0_eq]; simp only [owns_whole]; try rfl

/-- The proof data: each input's buffer at its block; the result's at the pooled state; the scratch at the running state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => pooled (iblk m c 3 t) (iblk m c 4 t) (stIn m c (t.val + 1) t.isLt)
  Φ t := PhiS m c t.val (Nat.le_of_lt_succ t.isLt)
  q _ := fullShare
  owed _ := 0

/-- Each window's array in the proof data is the array the launch reads. -/
theorem A_eq (c : Dev nD) (w : Fin cfg0.W) : (dats m 0 c).A w = V m c (Pipeline.arrRef spec0 w) := by
  dsimp only [dats]

/-- The invariant at the start of a point, by the number of points done. -/
theorem Phi_start (c : Dev nD) (t : Fin cfg0.N) : (dats m 0 c).Φ t.castSucc = PhiS m c t.val (Nat.le_of_lt t.isLt) := by
  dsimp only [dats]; exact Pipeline.Dat.Φ_castSucc (PhiS m c) t

/-- After a point the feature buffer still holds the point's block. -/
theorem after0 (c : Dev nD) (t : Fin cfg0.N) : (dats m 0 c).after 0 t = iblk m c 0 t := by dsimp only [dats]
/-- After a point the segment-number buffer still holds the point's block. -/
theorem after1 (c : Dev nD) (t : Fin cfg0.N) : (dats m 0 c).after 1 t = iblk m c 1 t := by dsimp only [dats]
/-- After a point the gate-weight buffer still holds the point's block. -/
theorem after2 (c : Dev nD) (t : Fin cfg0.N) : (dats m 0 c).after 2 t = iblk m c 2 t := by dsimp only [dats]
/-- After a point the projection-weight buffer still holds the point's block. -/
theorem after3 (c : Dev nD) (t : Fin cfg0.N) : (dats m 0 c).after 3 t = iblk m c 3 t := by dsimp only [dats]
/-- After a point the bias buffer still holds the point's block. -/
theorem after4 (c : Dev nD) (t : Fin cfg0.N) : (dats m 0 c).after 4 t = iblk m c 4 t := by dsimp only [dats]
/-- After a point the result's buffer is owed the state pooled there. -/
theorem after5 (c : Dev nD) (t : Fin cfg0.N) : (dats m 0 c).after 5 t = pooled (iblk m c 3 t) (iblk m c 4 t) (stIn m c (t.val + 1) t.isLt) := by dsimp only [dats]

/-- Before a point the feature buffer holds the point's block. -/
theorem before0 (c : Dev nD) (t : Fin cfg0.N) (d) : (dats m 0 c).before 0 t d = iblk m c 0 t :=
  before0_0_of m (dats m 0 c) (A_eq m c 0) (after0 m c) t d
/-- Before a point the segment-number buffer holds the point's block. -/
theorem before1 (c : Dev nD) (t : Fin cfg0.N) (d) : (dats m 0 c).before 1 t d = iblk m c 1 t :=
  before0_1_of m (dats m 0 c) (A_eq m c 1) (after1 m c) t d
/-- Before a point the gate-weight buffer holds the point's block. -/
theorem before2 (c : Dev nD) (t : Fin cfg0.N) (d) : (dats m 0 c).before 2 t d = iblk m c 2 t :=
  before0_2_of m (dats m 0 c) (A_eq m c 2) (after2 m c) t d
/-- Before a point the projection-weight buffer holds the point's block. -/
theorem before3 (c : Dev nD) (t : Fin cfg0.N) (d) : (dats m 0 c).before 3 t d = iblk m c 3 t :=
  before0_3_of m (dats m 0 c) (A_eq m c 3) (after3 m c) t d
/-- Before a point the bias buffer holds the point's block. -/
theorem before4 (c : Dev nD) (t : Fin cfg0.N) (d) : (dats m 0 c).before 4 t d = iblk m c 4 t :=
  before0_4_of m (dats m 0 c) (A_eq m c 4) (after4 m c) t d
/-- What a point leaves of the feature buffer: the point's block, owned whole. -/
theorem leaves0 (c : Dev nD) (t : Fin cfg0.N) :
    (dats m 0 c).leavesExact 0 t = owns (c : Thread nD τ) ((cfg0.win 0).stage (cfg0.slots t 0)) fullShare (iblk m c 0 t) := by
  unfold Dat.leavesExact
  rw [show cfg0.idle 0 (grid0.coords t) = false from rfl, after0]
/-- What a point leaves of the segment-number buffer: the point's block, owned whole. -/
theorem leaves1 (c : Dev nD) (t : Fin cfg0.N) :
    (dats m 0 c).leavesExact 1 t = owns (c : Thread nD τ) ((cfg0.win 1).stage (cfg0.slots t 1)) fullShare (iblk m c 1 t) := by
  unfold Dat.leavesExact
  rw [show cfg0.idle 1 (grid0.coords t) = false from rfl, after1]
/-- What a point leaves of the gate-weight buffer: the point's block, owned whole. -/
theorem leaves2 (c : Dev nD) (t : Fin cfg0.N) :
    (dats m 0 c).leavesExact 2 t = owns (c : Thread nD τ) ((cfg0.win 2).stage (cfg0.slots t 2)) fullShare (iblk m c 2 t) := by
  unfold Dat.leavesExact
  rw [show cfg0.idle 2 (grid0.coords t) = false from rfl, after2]
/-- What a point leaves of the projection-weight buffer: the point's block, owned whole. -/
theorem leaves3 (c : Dev nD) (t : Fin cfg0.N) :
    (dats m 0 c).leavesExact 3 t = owns (c : Thread nD τ) ((cfg0.win 3).stage (cfg0.slots t 3)) fullShare (iblk m c 3 t) := by
  unfold Dat.leavesExact
  rw [show cfg0.idle 3 (grid0.coords t) = false from rfl, after3]
/-- What a point leaves of the bias buffer: the point's block, owned whole. -/
theorem leaves4 (c : Dev nD) (t : Fin cfg0.N) :
    (dats m 0 c).leavesExact 4 t = owns (c : Thread nD τ) ((cfg0.win 4).stage (cfg0.slots t 4)) fullShare (iblk m c 4 t) := by
  unfold Dat.leavesExact
  rw [show cfg0.idle 4 (grid0.coords t) = false from rfl, after4]
/-- What a point leaves of the result's buffer. -/
theorem leaves5 (c : Dev nD) (t : Fin cfg0.N) (h : t.val = 4) :
    (dats m 0 c).leavesExact 5 t = owns (c : Thread nD τ) ((cfg0.win 5).stage (cfg0.slots t 5)) fullShare (pooled (iblk m c 3 t) (iblk m c 4 t) (stIn m c (t.val + 1) t.isLt)) := by
  unfold Dat.leavesExact
  rw [live_out t h, after5]

/-! ## The body at a point -/

/-- What a point's body is handed. -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d)))

/-- What a point's body hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body's triple at the first point. -/
theorem body_first (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = scratchAt c (stIn m c (t.val + 1) t.isLt) from rfl]
  rw [leaves0, leaves1, leaves2, leaves3, leaves4, Phi_start]
  rw [Dat.leavesExact_idle (dats m 0 c) 5 t (idle_out t (by omega)) (noFlush_out t (by omega))]
  rw [PhiS_zero m c _ _ h, PhiA_eq]
  rw [show stIn m c (t.val + 1) t.isLt = step (iblk m c 0 t) (iblk m c 1 t) (iblk m c 2 t) st0 from by
    obtain ⟨n, hn⟩ := t; subst h; rfl]
  unfold scratchAt
  iintro ⟨⟨⟨⟨%s1, HS1⟩, ⟨%s2, HS2⟩, ⟨%s0, HS0⟩⟩, Hg⟩, Ho, ⟨%d0, H0⟩, ⟨%d1, H1⟩, ⟨%d2, H2⟩, ⟨%d3, H3⟩, ⟨%d4, H4⟩, ⟨%d5, H5⟩⟩
  iapply (run_first c (grid0.coords t) _ _ _ _ _ _ _ _ _ _ _ _ _ _ _ _ _ _ ((first_iff t).mpr h) (fun hl => by have := (last_iff t).mp hl; omega) (iblk m c 0 t) (iblk m c 1 t) (iblk m c 2 t) (iblk m c 3 t) (iblk m c 4 t) ⟨s0, s1, s2⟩ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS1 HS2 HS0 Hg]
  · isplitl [HS1 HS2 HS0]
    · isplitl [HS1]; · iexact HS1
      isplitl [HS2]; · iexact HS2
      iexact HS0
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4800000 in
/-- The body's triple at a point between. -/
theorem body_mid (c : Dev nD) (t : Fin cfg0.N) (h : t.val ≠ 0) (h4 : t.val ≠ 4) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = scratchAt c (stIn m c (t.val + 1) t.isLt) from rfl]
  rw [leaves0, leaves1, leaves2, leaves3, leaves4, Phi_start]
  rw [Dat.leavesExact_idle (dats m 0 c) 5 t (idle_out t (by omega)) (noFlush_out t (by omega))]
  rw [show stIn m c (t.val + 1) t.isLt = step (iblk m c 0 t) (iblk m c 1 t) (iblk m c 2 t) (stIn m c t.val (Nat.le_of_lt t.isLt)) from rfl]
  rw [PhiS_pos m c _ _ (by omega)]
  generalize stIn m c t.val (Nat.le_of_lt t.isLt) = s
  unfold scratchAt
  iintro ⟨⟨⟨HS1, HS2, HS0⟩, Hg⟩, Ho, ⟨%d0, H0⟩, ⟨%d1, H1⟩, ⟨%d2, H2⟩, ⟨%d3, H3⟩, ⟨%d4, H4⟩, ⟨%d5, H5⟩⟩
  iapply (run_mid c (grid0.coords t) _ _ _ _ _ _ _ _ _ _ _ _ _ _ _ _ _ _ (fun hf => by have := (first_iff t).mp hf; omega) (fun hl => h4 ((last_iff t).mp hl)) (iblk m c 0 t) (iblk m c 1 t) (iblk m c 2 t) (iblk m c 3 t) (iblk m c 4 t) s _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS1 HS2 HS0 Hg]
  · isplitl [HS1 HS2 HS0]
    · isplitl [HS1]; · iexact HS1
      isplitl [HS2]; · iexact HS2
      iexact HS0
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4800000 in
/-- The body's triple at the last point. -/
theorem body_last (c : Dev nD) (t : Fin cfg0.N) (h4 : t.val = 4) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = scratchAt c (stIn m c (t.val + 1) t.isLt) from rfl]
  rw [leaves0, leaves1, leaves2, leaves3, leaves4, Phi_start]
  rw [leaves5 m c t h4]
  rw [show stIn m c (t.val + 1) t.isLt = step (iblk m c 0 t) (iblk m c 1 t) (iblk m c 2 t) (stIn m c t.val (Nat.le_of_lt t.isLt)) from rfl]
  rw [PhiS_pos m c _ _ (by omega)]
  generalize stIn m c t.val (Nat.le_of_lt t.isLt) = s
  unfold scratchAt
  iintro ⟨⟨⟨HS1, HS2, HS0⟩, Hg⟩, Ho, ⟨%d0, H0⟩, ⟨%d1, H1⟩, ⟨%d2, H2⟩, ⟨%d3, H3⟩, ⟨%d4, H4⟩, ⟨%d5, H5⟩⟩
  iapply (run_last c (grid0.coords t) _ _ _ _ _ _ _ _ _ _ _ _ _ _ _ _ _ _ (fun hf => by have := (first_iff t).mp hf; omega) ((last_iff t).mpr h4) (iblk m c 0 t) (iblk m c 1 t) (iblk m c 2 t) (iblk m c 3 t) (iblk m c 4 t) s _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS1 HS2 HS0 Hg]
  · isplitl [HS1 HS2 HS0]
    · isplitl [HS1]; · iexact HS1
      isplitl [HS2]; · iexact HS2
      iexact HS0
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body's triple at any point. -/
theorem body_any (c : Dev nD) (t : Fin cfg0.N) :
    bodyPre m c t ⊢ wp frame (wpE (defs₀ (F := F)) Variants.none c none) Set.univ (bodyAt0 t) (fun _ => bodyPost m c t) := by
  by_cases h : t.val = 0
  · exact body_first m c t h
  by_cases h4 : t.val = 4
  · exact body_last m c t h4
  exact body_mid m c t h h4

/-- The body the pipeline calls at a point is the kernel's body on the point's buffers. -/
theorem row_body (t : Fin cfg0.N) : defs₀ (F := F) .tc cfg0.body (cfg0.bodyArgs t (cfg0.slots t)) = bodyAt0 t := by
  unfold defs₀; rw [Defs.onTc_tc]

/-- The pipeline's obligation on its body. -/
theorem obligation (c : Dev nD) : BodyObligation (dats (F := F) m 0 c) (defs₀ (F := F)) Variants.none () Set.univ := fun t => by
  rw [bigSep_W0, bigSep_W0, row_body]
  exact triple_restated (body_any m c t) rfl .rfl fun _ => .rfl

/-- What the launch hands over is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the scratch's contents are forgotten. -/
theorem hout (c : Dev nD) : (dats m 0 c).Φ (Fin.last cfg0.N) ⊢ Pipeline.ΦA spec0 c := by
  have hN : cfg0.N = 5 := N_0
  rw [show (dats m 0 c).Φ (Fin.last cfg0.N) = PhiS m c cfg0.N (Nat.le_refl _) from rfl, PhiS_pos m c _ _ (by omega), PhiA_eq]
  unfold scratchAt
  iintro ⟨⟨HS1, HS2, HS0⟩, Hg⟩
  isplitl [HS1 HS2 HS0]
  · isplitl [HS1]; · iexists _; iexact HS1
    isplitl [HS2]; · iexists _; iexact HS2
    iexists _; iexact HS0
  iexact Hg

/-! ## The launch -/

set_option backward.isDefEq.respectTransparency.types false in
/-- The whole program terminates; the pipeline's arrays end at what the proof data says, and the counters at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

/-- The frame: every run terminates without fault, the arguments unchanged, the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Pool

end
-- ==== Proof.KI.Run.lean ====
module

public import proofs.«01_k».proof.Proof.KI.Frame

@[expose] public section

set_option maxRecDepth 16384

noncomputable section

namespace Cert.KernelIdeal.Pool

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

/-- Five blocks are no more than the grid has. -/
theorem five_le : 5 ≤ cfg0.N := Nat.le_of_eq N_0.symm

/-- The program's result: the state after the five blocks, pooled with the last point's weights and bias. -/
def result (c : Dev nD) : Buf (Elt F) ((c : Thread nD τ).loc main_v3) :=
  pooled (iblk m c 3 t0_4) (iblk m c 4 t0_4) (stIn m c 5 five_le)

/-- What the last point writes back is the result. -/
theorem flushed_result (c : Dev nD) (t : Fin cfg0.N) (hf : (cfg0.win 5).flush t = true) :
    (dats m 0 c).flushed 5 t = ((cfg0.win 5).blk t).view.read (Elt F) (result m c) := by
  have hN : cfg0.N = 5 := N_0
  have h4 : t.val = 4 := by have := (flush0_5 t).mp hf; have := t.isLt; omega
  obtain rfl : t = t0_4 := Fin.ext h4
  show (cfg0.win 5).cut (grid0.coords t0_4) ((dats m 0 c).after 5 t0_4) = _
  rw [after5]
  have hz : (fun a => win0_5.index t0_4 a * main_v3.ty.shape.size a) = fun _ => 0 := funext fun a => by fin_cases a <;> decide
  exact (Memref.read_access_unit_zero (Elt F) main_v3 hz (fun a => by rw [congrFun hz a]; simp) (result m c)).symm

/-- The last point's block is the whole result array. -/
theorem final_result (c : Dev nD) : (dats m 0 c).arrAt 5 cfg0.N = result m c :=
  (dats m 0 c).arrAt_eq_of_cover 5 (result m c) (flushed_result m c) fun i =>
    ⟨t0_4, (flush0_5 t0_4).mpr rfl, by
      show i ∈ ((View.whole main_v3).slice (win0_5.rect t0_4)).set
      rw [View.set_slice_whole, Rect.mem_set_unit]
      intro a
      have h0 : (i 0 : Nat) < 256 := (i 0).isLt
      have h1 : (i 1 : Nat) < 512 := (i 1).isLt
      match a with
      | ⟨0, _⟩ => show win0_5.index t0_4 0 * win0_5.size 0 ≤ (i 0 : Nat) ∧ (i 0 : Nat) < win0_5.index t0_4 0 * win0_5.size 0 + win0_5.xsize (grid0.coords t0_4) 0
                  rw [show win0_5.index t0_4 0 * win0_5.size 0 = 0 from by decide +kernel, show win0_5.xsize (grid0.coords t0_4) 0 = 256 from by decide +kernel]; omega
      | ⟨1, _⟩ => show win0_5.index t0_4 1 * win0_5.size 1 ≤ (i 1 : Nat) ∧ (i 1 : Nat) < win0_5.index t0_4 1 * win0_5.size 1 + win0_5.xsize (grid0.coords t0_4) 1
                  rw [show win0_5.index t0_4 1 * win0_5.size 1 = 0 from by decide +kernel, show win0_5.xsize (grid0.coords t0_4) 1 = 512 from by decide +kernel]; omega⟩

/-- The run: the result array ends at `result`, the arguments unchanged. -/
theorem run_value : θ_run defs (onTc (τ := τ) (main (F := F))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).trans (final_result m c), h.2.1 c⟩)
    (θ_run_and ((θ_run defs _ _).mono (fun _ h c => (h.1 c).1 5) (run_main m ρ)) (frame_run m ρ))

end Cert.KernelIdeal.Pool

end
-- ==== Proof.Maths.lean ====
/- The mathematics of a softmax-weighted pooling that both programs compute, on real data and extended-real sums:
   sums of real values, a row of the gate, the kernel's projected average and the reference's weighted sum of
   projections, and why the two are one value. No program is mentioned here. -/
module

public import Idealize.ShloMosaic.PureOps.Ideal

@[expose] public section

noncomputable section

namespace Cert.PoolMaths

open Idealize.ShloMosaic

/-- A finite sum of reals, read as an extended real, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals, read as an extended real. -/
theorem sum_mul_coe {ι : Type*} (s : Finset ι) (f g : ι → ℝ) :
    ∑ i ∈ s, (f i : EReal) * (g i : EReal) = ((∑ i ∈ s, f i * g i : ℝ) : EReal) := by
  rw [coe_sum]; exact Finset.sum_congr rfl fun i _ => (EReal.coe_mul _ _).symm

/-- A nonempty sum whose terms are all `⊤` is `⊤`. -/
theorem sum_top {ι : Type*} {s : Finset ι} (hs : s.Nonempty) (f : ι → EReal) (h : ∀ i ∈ s, f i = ⊤) : ∑ i ∈ s, f i = ⊤ := by
  induction hs using Finset.Nonempty.cons_induction with
  | singleton a => rw [Finset.sum_singleton]; exact h a (Finset.mem_singleton_self a)
  | cons a s ha _ ih =>
    rw [Finset.sum_cons, ih fun i hi => h i (Finset.mem_cons_of_mem hi), h a (Finset.mem_cons_self a s)]; rfl

/-- A nonempty sum whose terms are all `⊥` is `⊥`. -/
theorem sum_bot {ι : Type*} {s : Finset ι} (hs : s.Nonempty) (f : ι → EReal) (h : ∀ i ∈ s, f i = ⊥) : ∑ i ∈ s, f i = ⊥ := by
  induction hs using Finset.Nonempty.cons_induction with
  | singleton a => rw [Finset.sum_singleton]; exact h a (Finset.mem_singleton_self a)
  | cons a s ha _ ih =>
    rw [Finset.sum_cons, ih fun i hi => h i (Finset.mem_cons_of_mem hi), h a (Finset.mem_cons_self a s)]; rfl

/-- Dividing a real by a nonzero real is the real quotient. -/
theorem div_coe (a b : ℝ) (hb : b ≠ 0) : Ideal.div (a : EReal) (b : EReal) = ((a / b : ℝ) : EReal) := by
  unfold Ideal.div
  rw [if_neg (by rw [← EReal.coe_zero]; exact fun h => hb (EReal.coe_injective h)), ← EReal.coe_inv, ← EReal.coe_mul, div_eq_mul_inv]

/-- An extended real of finite size is a real. -/
theorem exists_real_of_abs_lt_top {v : EReal} (h : max v (-v) < ⊤) : ∃ r : ℝ, v = r := by
  induction v using EReal.rec with
  | bot => simp at h
  | coe r => exact ⟨r, rfl⟩
  | top => simp at h

variable {N K : ℕ}

/-- The gate of row `n`: its features against the gate's weights. -/
def gate (X : Fin N → Fin K → ℝ) (w : Fin K → ℝ) (n : Fin N) : ℝ := ∑ k, X n k * w k

/-- The weights of a segment: shifting every exponent by one amount does not move the quotient by their sum. -/
theorem weight_shift (S : Finset (Fin N)) (γ : Fin N → ℝ) (b M μ : ℝ) (n : Fin N) :
    Real.exp (γ n + b - μ) / ∑ i ∈ S, Real.exp (γ i + b - μ) = Real.exp (γ n - M) / ∑ i ∈ S, Real.exp (γ i - M) := by
  have e : ∀ i, Real.exp (γ i + b - μ) = Real.exp (γ i - M) * Real.exp (M + b - μ) := fun i => by
    rw [← Real.exp_add]; congr 1; ring
  simp only [e]
  rw [← Finset.sum_mul, mul_div_mul_right _ _ (Real.exp_ne_zero _)]

/-- The sum of a nonempty segment's exponentials is positive. -/
theorem sum_exp_pos {S : Finset (Fin N)} (hS : S.Nonempty) (γ : Fin N → ℝ) (M : ℝ) : 0 < ∑ i ∈ S, Real.exp (γ i - M) :=
  Finset.sum_pos (fun _ _ => Real.exp_pos _) hS

/-- THE EQUATION, on reals: projecting the weighted average of the rows is averaging the projected rows. -/
theorem project_average (S : Finset (Fin N)) (X : Fin N → Fin K → ℝ) (v : Fin K → ℝ) (e : Fin N → ℝ) (D : ℝ) :
    ∑ k, ((∑ n ∈ S, e n * X n k) * (1 / D)) * v k = ∑ n ∈ S, (∑ k, X n k * v k) * (e n / D) := by
  simp only [Finset.sum_mul]
  rw [Finset.sum_comm]
  refine Finset.sum_congr rfl fun n _ => Finset.sum_congr rfl fun k _ => ?_
  ring

/-- The reference's weighted sum over a nonempty segment of projected rows plus an extended-real bias is the projected
    average plus the bias: the weights are positive reals that sum to one. -/
theorem weighted_bias {S : Finset (Fin N)} (hS : S.Nonempty) (y a : Fin N → ℝ) (ha : ∀ n, 0 < a n) (h1 : ∑ n ∈ S, a n = 1)
    (b : EReal) : ∑ n ∈ S, ((y n : EReal) + b) * (a n : EReal) = ((∑ n ∈ S, y n * a n : ℝ) : EReal) + b := by
  induction b using EReal.rec with
  | bot =>
    rw [EReal.add_bot]
    exact sum_bot hS _ fun n _ => by rw [EReal.add_bot, EReal.bot_mul_coe_of_pos (ha n)]
  | top =>
    rw [EReal.coe_add_top]
    exact sum_top hS _ fun n _ => by rw [EReal.coe_add_top, EReal.top_mul_coe_of_pos (ha n)]
  | coe r =>
    have e : ∀ n ∈ S, ((y n : EReal) + (r : EReal)) * (a n : EReal) = ((y n * a n + r * a n : ℝ) : EReal) := fun n _ => by
      rw [← EReal.coe_add, ← EReal.coe_mul, add_mul]
    rw [Finset.sum_congr rfl e, ← coe_sum, Finset.sum_add_distrib, ← Finset.mul_sum, h1, mul_one, EReal.coe_add]

/-- THE EQUATION: over a nonempty segment the kernel's value (the projected average plus the bias) is the reference's
    (the weighted sum of projected rows, each with the bias). -/
theorem pooled_eq {S : Finset (Fin N)} (hS : S.Nonempty) (X : Fin N → Fin K → ℝ) (γ : Fin N → ℝ) (v : Fin K → ℝ)
    (β M μ : ℝ) (b : EReal) :
    ((∑ k, ((∑ n ∈ S, Real.exp (γ n - M) * X n k) * (1 / ∑ n ∈ S, Real.exp (γ n - M))) * v k : ℝ) : EReal) + b
      = ∑ n ∈ S, (((∑ k, X n k * v k : ℝ) : EReal) + b)
          * ((Real.exp (γ n + β - μ) / ∑ i ∈ S, Real.exp (γ i + β - μ) : ℝ) : EReal) := by
  have hD := sum_exp_pos hS γ M
  simp only [weight_shift S γ β M μ]
  rw [weighted_bias hS _ _ (fun n => div_pos (Real.exp_pos _) hD) (by rw [← Finset.sum_div, div_self hD.ne'])]
  rw [project_average]

/-- A sum over 50000 rows, block by block: five blocks of 10000 rows. -/
theorem sum_blocks (f : Fin 50000 → ℝ) :
    ∑ b ∈ Finset.range 5, ∑ i : Fin 10000, f ⟨(10000 * b + i.val) % 50000, Nat.mod_lt _ (by norm_num)⟩ = ∑ n, f n := by
  rw [Finset.sum_range (n := 5)]
  rw [← Equiv.sum_comp (finProdFinEquiv : Fin 5 × Fin 10000 ≃ Fin 50000) f, Fintype.sum_prod_type]
  refine Finset.sum_congr rfl fun b _ => Finset.sum_congr rfl fun i _ => congrArg f (Fin.ext ?_)
  have hb := b.isLt
  have hi := i.isLt
  show (10000 * b.val + i.val) % 50000 = i.val + 10000 * b.val
  omega

end Cert.PoolMaths

end
-- ==== Proof.KI.Block.lean ====
/- What one block of the kernel computes, read at an index over the extended reals: the gates, the new maximum, the
   weights, the rescaled and the updated denominators and sums, and the stored result. -/
module

public import proofs.«01_k».proof.Proof.KI.State
public import proofs.«01_k».proof.Proof.Maths
public import Idealize.ShloMosaic.Lib.MatmulPlain
public import Idealize.ShloMosaic.Lib.ValueIdx
public import Idealize.ShloMosaic.Lib.IdealHost
public import Idealize.ShloMosaic.Lib.ValueLayout
public import Idealize.ShloMosaic.Lib.ValueLayoutCasts

@[expose] public section

set_option maxRecDepth 16384

noncomputable section

namespace Cert.KernelIdeal.Pool

open Cert.KernelIdeal Cert.KernelIdeal.Gen Cert.PoolMaths
open Idealize.ShloMosaic Idealize.ShloMosaic.TcCoe Idealize.ShloMosaic.ValueIdx

variable (x : Vec Ideal S10000x512 .f32) (ids : Vec Ideal S1x1x10000 .i32) (wg : Vec Ideal S512x1 .bf16)
variable (X : Fin 10000 → Fin 512 → ℝ) (w : Fin 512 → ℝ)

/-- The word of zero is the number zero. -/
theorem lit_zero : Ideal.ofBits .f32 0x00000000#32 = 0 := Ideal.ofBits_zero_f32

/-- A comparison bit is one exactly when the strict inequality holds. -/
theorem ogt_one (a b : EReal) : Ideal.cmp .ogt a b = 1#1 ↔ b < a := by
  unfold Ideal.cmp; by_cases h : b < a <;> simp [h]

/-- The gate of row `i` of a block of real rows. -/
theorem pay7_real (hx : ∀ i k, x (ix2 i k) = (X i k : EReal)) (hw : ∀ k, wg (ix2 k 0) = (w k : EReal)) (i : Fin 10000) :
    k0_pay7 x wg (ix2 0 i) = ((gate X w i : ℝ) : EReal) := by
  unfold k0_pay7 k0_pay6
  dsimp only
  rw [shapeCast_self, transpose_ix2_apply]
  refine (Ideal.matmul_plain_apply none _ _ _ i 0).trans ?_
  rw [show (constant S10000x1 .f32 0x00000000#32 : FVec Ideal S10000x1 .f32) (ix2 i 0) = 0 from lit_zero, zero_add]
  unfold gate
  rw [← sum_mul_coe]
  exact Finset.sum_congr rfl fun k _ => by rw [hw k, ← hx i k]; rfl

/-- Every gate of a block of real rows is real. -/
theorem pay7_exists (hx : ∀ i k, x (ix2 i k) = (X i k : EReal)) (hw : ∀ k, wg (ix2 k 0) = (w k : EReal)) (j : S1x10000.Idx) :
    ∃ r : ℝ, k0_pay7 x wg j = (r : EReal) := by
  refine ⟨gate X w (j 1), Eq.trans (congrArg _ ?_) (pay7_real x wg X w hx hw (j 1))⟩
  exact (funext fun a => by
    match a with
    | ⟨0, _⟩ => exact Subsingleton.elim (α := Fin 1) _ _
    | ⟨1, _⟩ => rfl)

/-- From a real maximum the new maximum is real and no smaller. -/
theorem pay8_real (hx : ∀ i k, x (ix2 i k) = (X i k : EReal)) (hw : ∀ k, wg (ix2 k 0) = (w k : EReal)) (M : ℝ) :
    ∃ M' : ℝ, M ≤ M' ∧ k0_pay8 x wg (M : EReal) = (M' : EReal) := by
  have hb : ∀ j, multiReduction .maximumf [1, 2] S1 (shapeCast S1x1x10000 (k0_pay7 x wg) shapeCasts_S1x10000_S1x1x10000)
      0xFF800000#32 reduces_S1x1x10000_S1 (.inl rfl) rfl j < (⊤ : EReal) := fun j => by
    refine lt_of_eq_of_lt (multiReduction_maximumf_eq_fold _ _ _ _ _ _) ?_
    refine (Finset.fold_max_lt _).mpr ⟨?_, fun j _ => ?_⟩
    · show Ideal.ofBits .f32 0xFF800000#32 < ⊤
      simp [Ideal.ofBits, Ideal.ieee]
    · obtain ⟨r, hr⟩ := pay7_exists x wg X w hx hw (Shape.reshapeEquiv shapeCasts_S1x10000_S1x1x10000 j)
      exact lt_of_eq_of_lt hr (EReal.coe_lt_top r)
  have key : ∃ e : EReal, e < ⊤ ∧ k0_pay8 x wg (M : EReal) = max (M : EReal) e := ⟨_, hb _, rfl⟩
  obtain ⟨e, he, h⟩ := key
  induction e using EReal.rec with
  | bot => exact ⟨M, le_rfl, by rw [h]; simp⟩
  | coe r => exact ⟨max M r, le_max_left _ _, by rw [h]; exact (EReal.coe_strictMono.monotone.map_max).symm⟩
  | top => exact absurd he (lt_irrefl _)

/-- The block raises a real maximum exactly when the new one is larger. -/
theorem grows_iff (M M' : ℝ) (h : k0_pay8 x wg (M : EReal) = (M' : EReal)) : grows x wg (M : EReal) ↔ M < M' := by
  have e : Scalar.cmpf .ogt (k0_pay8 x wg (M : EReal)) (M : EReal) = Ideal.cmp .ogt (M' : EReal) (M : EReal) := by rw [h]; rfl
  unfold grows
  rw [e, ← EReal.coe_lt_coe_iff, ← ogt_one]
  rcases BitVec.eq_zero_or_eq_one (Ideal.cmp .ogt (M' : EReal) (M : EReal)) with hb | hb <;> rw [hb] <;> decide

/-- Whether row `i` of the block belongs to segment `s`. -/
abbrev inSeg (idb : Fin 10000 → BitVec 32) (s : Fin 256) (i : Fin 10000) : Prop := idb i = BitVec.ofNat 32 s.val

/-- The weight of row `i` in segment `s`: the exponential of its gate above the maximum, zero outside the segment. -/
def weight (idb : Fin 10000 → BitVec 32) (M : ℝ) (s : Fin 256) (i : Fin 10000) : ℝ :=
  if inSeg idb s i then Real.exp (gate X w i - M) else 0

/-- The weights as the block computes them. -/
theorem pay12_real (hx : ∀ i k, x (ix2 i k) = (X i k : EReal)) (hw : ∀ k, wg (ix2 k 0) = (w k : EReal)) (M M' : ℝ)
    (h : k0_pay8 x wg (M : EReal) = (M' : EReal)) (s : Fin 256) (i : Fin 10000) :
    k0_pay12 x ids wg (M : EReal) (ix2 s i) = ((weight X w (fun i => ids (ix3 0 0 i)) M' s i : ℝ) : EReal) := by
  unfold k0_pay12
  dsimp only
  rw [select_apply, shapeCast_self, broadcastTo_1b_ab_apply, broadcast_apply]
  have ee : (exp (subf (k0_pay7 x wg) (broadcast S1x10000 (k0_pay8 x wg (M : EReal)))) : FVec Ideal S1x10000 .f32) (ix2 0 i)
      = ((Real.exp (gate X w i - M') : ℝ) : EReal) := by
    show Ideal.exp (k0_pay7 x wg (ix2 0 i) - k0_pay8 x wg (M : EReal)) = _
    rw [pay7_real x wg X w hx hw, h, ← EReal.coe_sub]; rfl
  have ec : cmpi .eq (broadcastTo S256x10000 (shapeCast S1x10000 ids shapeCasts_S1x1x10000_S1x10000) broadcasts_S1x10000_S256x10000)
      (iota .tc S256x10000 32 [0] iota_S256x10000_d0_w32) (ix2 s i) = IntOp.cmpi .eq (ids (ix3 0 0 i)) (BitVec.ofNat 32 s.val) := by
    show IntOp.cmpi .eq (broadcastTo S256x10000 (shapeCast S1x10000 ids shapeCasts_S1x1x10000_S1x10000) broadcasts_S1x10000_S256x10000 (ix2 s i)) _ = _
    rw [broadcastTo_1b_ab_apply, shapeCast_1ab_ab_apply]
    have hi : iota .tc S256x10000 32 [0] iota_S256x10000_d0_w32 (ix2 s i) = BitVec.ofNat 32 (0 * 256 + s.val) := rfl
    rw [hi, Nat.zero_mul, Nat.zero_add]
  rw [ec, ee]
  unfold weight
  by_cases hs : ids (ix3 0 0 i) = BitVec.ofNat 32 s.val
  · rw [show IntOp.cmpi .eq (ids (ix3 0 0 i)) (BitVec.ofNat 32 s.val) = 1#1 by simp [IntOp.cmpi, hs], if_pos hs]; rfl
  · rw [show IntOp.cmpi .eq (ids (ix3 0 0 i)) (BitVec.ofNat 32 s.val) = 0#1 by
      show BitVec.ofBool (ids (ix3 0 0 i) == BitVec.ofNat 32 s.val) = 0#1
      rw [beq_eq_false_iff_ne.mpr hs]; rfl, if_neg hs]
    exact lit_zero

/-- The updated denominators: the old ones plus the block's weights. -/
theorem pay14_real (hx : ∀ i k, x (ix2 i k) = (X i k : EReal)) (hw : ∀ k, wg (ix2 k 0) = (w k : EReal)) (M M' : ℝ)
    (h : k0_pay8 x wg (M : EReal) = (M' : EReal)) (den : Vec Ideal S256x1 .f32) (s : Fin 256) :
    k0_pay14 x ids wg (M : EReal) den (ix2 s 0)
      = den (ix2 s 0) + ((∑ i, weight X w (fun i => ids (ix3 0 0 i)) M' s i : ℝ) : EReal) := by
  unfold k0_pay14
  dsimp only
  rw [addf_apply, shapeCast_a_a1_apply]
  refine congrArg (den (ix2 s 0) + ·) ?_
  refine (Ideal.multiReduction_add_single _ _ _ _ _ _).trans ?_
  rw [coe_sum]
  refine Finset.sum_congr rfl fun i _ => ?_
  refine Eq.trans (congrArg _ ?_) (pay12_real x ids wg X w hx hw M M' h s i)
  exact (funext fun a => by
    match a with
    | ⟨0, _⟩ => rfl
    | ⟨1, _⟩ => rfl)

/-- The updated sums: the old ones plus the block's weighted rows. -/
theorem pay2_real (hx : ∀ i k, x (ix2 i k) = (X i k : EReal)) (hw : ∀ k, wg (ix2 k 0) = (w k : EReal)) (M M' : ℝ)
    (h : k0_pay8 x wg (M : EReal) = (M' : EReal)) (sum : Vec Ideal S256x512 .f32) (s : Fin 256) (k : Fin 512) :
    k0_pay2 (k0_pay6 x) (k0_pay13 x ids wg (M : EReal)) sum (ix2 s k)
      = sum (ix2 s k) + ((∑ i, weight X w (fun i => ids (ix3 0 0 i)) M' s i * X i k : ℝ) : EReal) := by
  unfold k0_pay2 k0_pay6 k0_pay13
  dsimp only
  rw [shapeCast_self, addf_apply]
  refine congrArg (sum (ix2 s k) + ·) ?_
  refine (Ideal.matmul_plain_apply none _ _ _ s k).trans ?_
  rw [show (constant S256x512 .f32 0x00000000#32 : FVec Ideal S256x512 .f32) (ix2 s k) = 0 from lit_zero, zero_add, ← sum_mul_coe]
  exact Finset.sum_congr rfl fun i _ => by
    rw [← pay12_real x ids wg X w hx hw M M' h, ← hx i k]; rfl

/-- The rescaling factor. -/
theorem pay9_real (M M' : ℝ) (h : k0_pay8 x wg (M : EReal) = (M' : EReal)) :
    k0_pay9 x wg (M : EReal) = ((Real.exp (M - M') : ℝ) : EReal) := by
  unfold k0_pay9
  dsimp only
  rw [h]
  show Ideal.exp ((M : EReal) - (M' : EReal)) = _
  rw [← EReal.coe_sub]; rfl

/-- A state all of whose entries are the reals given. -/
structure IsReal (σ : St Ideal) (M : ℝ) (D : Fin 256 → ℝ) (A : Fin 256 → Fin 512 → ℝ) : Prop where
  mx : σ.mx one1 = (M : EReal)
  den : ∀ s, σ.den (ix2 s 0) = (D s : EReal)
  sum : ∀ s k, σ.sum (ix2 s k) = (A s k : EReal)

/-- Rescaling a real state: denominators and sums are multiplied by the exponential of the maximum's fall. -/
theorem rescale_real (σ : St Ideal) (M M' : ℝ) (D : Fin 256 → ℝ) (A : Fin 256 → Fin 512 → ℝ) (hσ : IsReal σ M D A)
    (hle : M ≤ M') (h : k0_pay8 x wg (M : EReal) = (M' : EReal)) :
    IsReal (rescale x wg σ) M' (fun s => D s * Real.exp (M - M')) (fun s k => A s k * Real.exp (M - M')) := by
  unfold rescale
  rw [hσ.mx]
  by_cases hg : grows x wg (M : EReal)
  · rw [if_pos hg]
    refine ⟨h, fun s => ?_, fun s k => ?_⟩
    · show shapeCast S256x1 (mulf σ.den (broadcast S256x1 (k0_pay9 x wg (M : EReal)))) _ (ix2 s 0) = _
      rw [shapeCast_self, mulf_apply, broadcast_apply, pay9_real x wg M M' h, hσ.den, EReal.coe_mul]
    · show shapeCast S256x512 (mulf σ.sum (broadcast S256x512 (k0_pay9 x wg (M : EReal)))) _ (ix2 s k) = _
      rw [shapeCast_self, mulf_apply, broadcast_apply, pay9_real x wg M M' h, hσ.sum, EReal.coe_mul]
  · rw [if_neg hg]
    have e : M = M' := le_antisymm hle (not_lt.mp fun hlt => hg ((grows_iff x wg M M' h).mpr hlt))
    subst e
    exact ⟨hσ.mx, fun s => by simp [hσ.den], fun s k => by simp [hσ.sum]⟩

/-- ONE BLOCK: from a real state the step leads to a real state, rescaled and with the block's terms added. -/
theorem step_real (hx : ∀ i k, x (ix2 i k) = (X i k : EReal)) (hw : ∀ k, wg (ix2 k 0) = (w k : EReal))
    (σ : St Ideal) (M : ℝ) (D : Fin 256 → ℝ) (A : Fin 256 → Fin 512 → ℝ) (hσ : IsReal σ M D A) :
    ∃ M' : ℝ, IsReal (step x ids wg σ) M'
      (fun s => D s * Real.exp (M - M') + ∑ i, weight X w (fun i => ids (ix3 0 0 i)) M' s i)
      (fun s k => A s k * Real.exp (M - M') + ∑ i, weight X w (fun i => ids (ix3 0 0 i)) M' s i * X i k) := by
  obtain ⟨M', hle, h⟩ := pay8_real x wg X w hx hw M
  have hr := rescale_real x wg σ M M' D A hσ hle h
  refine ⟨M', ⟨hr.mx, fun s => ?_, fun s k => ?_⟩⟩
  · show shapeCast S256x1 (k0_pay14 x ids wg (σ.mx one1) (rescale x wg σ).den) _ (ix2 s 0) = _
    rw [shapeCast_self, hσ.mx, pay14_real x ids wg X w hx hw M M' h, hr.den, ← EReal.coe_add]
  · show k0_pay2 (k0_pay6 x) (k0_pay13 x ids wg (σ.mx one1)) (rescale x wg σ).sum (ix2 s k) = _
    rw [hσ.mx, pay2_real x ids wg X w hx hw M M' h, hr.sum, ← EReal.coe_add]

/-- The starting state is real: some maximum, zero denominators, zero sums. -/
theorem st0_real : ∃ M : ℝ, IsReal st0 M (fun _ => 0) (fun _ _ => 0) := by
  have hm : ∃ M : ℝ, Ideal.ofBits .f32 0xF149F2CA#32 = (M : EReal) := by
    simp only [Ideal.ofBits, Ideal.ieee]
    norm_num
    exact ⟨_, rfl⟩
  obtain ⟨M, hM⟩ := hm
  refine ⟨M, ⟨hM, fun s => ?_, fun s k => ?_⟩⟩
  · unfold st0 k0_pay4
    dsimp only
    rw [shapeCast_self, broadcast_apply, EReal.coe_zero]; exact lit_zero
  · unfold st0 k0_pay5
    dsimp only
    rw [shapeCast_self, broadcast_apply, EReal.coe_zero]; exact lit_zero

end Cert.KernelIdeal.Pool

end
-- ==== Proof.KI.Arrays.lean ====
/- The blocks the kernel is called with, read at an index as entries of the launch arrays: the host operations before
   the launch are two reshapes and one narrowing, and each window is cut out of its array at the point's block index. -/
module

public import proofs.«01_k».proof.Proof.KI.Block
public import Idealize.ShloMosaic.Lib.StableHlo.Run

@[expose] public section

set_option maxRecDepth 16384

noncomputable section

namespace Cert.KernelIdeal.Pool

open Cert.KernelIdeal Cert.KernelIdeal.Gen
open Idealize.ShloMosaic Idealize.ShloMosaic.TcCoe Idealize.ShloMosaic.ValueIdx Idealize.ShloMosaic.StableHlo

variable {F : FTy → Type} [FloatOps F] (m : (ℓ : Loc nD τ sig) → Buf (Elt F) ℓ) (c : Dev nD)

/-- The launch array of features. -/
abbrev feat : Vec F S50000x512 .f32 := m ((c : Thread nD τ).loc main_arg0)
/-- The launch array of the gate's weights. -/
abbrev gateW : Vec F S512x1 .f32 := m ((c : Thread nD τ).loc main_arg1)
/-- The launch array of the projection's weights. -/
abbrev projW : Vec F S512x512 .f32 := m ((c : Thread nD τ).loc main_arg3)
/-- The launch array of the projection's bias. -/
abbrev projB : Vec F S512 .f32 := m ((c : Thread nD τ).loc main_arg4)
/-- The launch array of segment numbers. -/
abbrev segIds : Vec F S50000 .i32 := m ((c : Thread nD τ).loc main_arg5)

/-- The segment numbers as the kernel receives them: the launch array in five rows. -/
theorem V_ids : V m c main_v0 = shapeCast S5x1x10000 (segIds m c) shapeCasts_S50000_S5x1x10000 := by
  unfold V; simp only [hostOps0]; after_results_simp <;> rfl

/-- The bias as the kernel receives it: the launch array as one row. -/
theorem V_bias : V m c main_v1 = shapeCast S1x512 (projB m c) shapeCasts_S512_S1x512 := by
  unfold V; simp only [hostOps0]; after_results_simp <;> rfl

/-- The gate's weights as the kernel receives them: the launch array narrowed. -/
theorem V_gateW : V m c main_v2 = truncf .bf16 (gateW m c) bitsLt_bf16_f32 := by
  unfold V; simp only [hostOps0]; after_results_simp <;> rfl

/-- The feature window's block index. -/
theorem index0 : ∀ t : Fin cfg0.N, cc0_transform_0 (grid0.coords t) 0 = t.val ∧ cc0_transform_0 (grid0.coords t) 1 = 0 := by
  decide +kernel
/-- The segment-number window's block index. -/
theorem index1 : ∀ t : Fin cfg0.N, cc0_transform_1 (grid0.coords t) 0 = t.val ∧ cc0_transform_1 (grid0.coords t) 1 = 0
    ∧ cc0_transform_1 (grid0.coords t) 2 = 0 := by
  decide +kernel

/-- The array row of row `i` of block `b`. -/
abbrev row (b : ℕ) (i : Fin 10000) : Fin 50000 := ⟨(10000 * b + i.val) % 50000, Nat.mod_lt _ (by norm_num)⟩

/-- The feature block at a point is 10000 rows of the feature array. -/
theorem iblk_feat (t : Fin cfg0.N) (i : Fin 10000) (k : Fin 512) :
    (iblk m c 0 t : Vec F S10000x512 .f32) (ix2 i k) = feat m c (ix2 (row t.val i) k) := by
  have hN : cfg0.N = 5 := N_0
  have ht := t.isLt
  have hi := i.isLt
  unfold iblk
  rw [show V m c (Pipeline.arrRef spec0 0) = feat m c from V_main_arg0 m c]
  refine congrArg (feat m c) (funext fun a => Fin.ext ?_)
  match a with
  | ⟨0, _⟩ =>
    show cc0_transform_0 (grid0.coords t) 0 * 10000 + 1 * i.val = (10000 * t.val + i.val) % 50000
    rw [(index0 t).1]; omega
  | ⟨1, _⟩ =>
    show cc0_transform_0 (grid0.coords t) 1 * 512 + 1 * k.val = k.val
    rw [(index0 t).2]; omega

/-- The segment-number block at a point is 10000 entries of the segment-number array. -/
theorem iblk_ids (t : Fin cfg0.N) (i : Fin 10000) :
    (iblk m c 1 t : Vec F S1x1x10000 .i32) (ix3 0 0 i) = segIds m c (ix1 (row t.val i)) := by
  have hN : cfg0.N = 5 := N_0
  have ht := t.isLt
  have hi := i.isLt
  unfold iblk
  rw [show V m c (Pipeline.arrRef spec0 1) = shapeCast S5x1x10000 (segIds m c) shapeCasts_S50000_S5x1x10000 from V_ids m c]
  have e : ∀ j : S5x1x10000.Idx, j = ix3 ⟨t.val, by omega⟩ 0 i →
      shapeCast S5x1x10000 (segIds m c) shapeCasts_S50000_S5x1x10000 j = segIds m c (ix1 (row t.val i)) := fun j hj => by
    subst hj
    refine shapeCast_apply _ _ _ _ ?_
    rw [Shape.rowMajor_val_one, Shape.rowMajor_val_three]
    show (10000 * t.val + i.val) % 50000 = (t.val * 1 + 0) * 10000 + i.val
    omega
  refine e _ (funext fun a => Fin.ext ?_)
  match a with
  | ⟨0, _⟩ =>
    show cc0_transform_1 (grid0.coords t) 0 * 1 + 1 * 0 = t.val
    rw [(index1 t).1]; omega
  | ⟨1, _⟩ =>
    show cc0_transform_1 (grid0.coords t) 1 * 1 + 1 * 0 = 0
    rw [(index1 t).2.1]
  | ⟨2, _⟩ =>
    show cc0_transform_1 (grid0.coords t) 2 * 10000 + 1 * i.val = i.val
    rw [(index1 t).2.2]; omega

/-- The gate's weights at every point are the whole array, narrowed. -/
theorem iblk_gateW (t : Fin cfg0.N) (k : Fin 512) :
    (iblk m c 2 t : Vec F S512x1 .bf16) (ix2 k 0) = truncf .bf16 (gateW m c) bitsLt_bf16_f32 (ix2 k 0) := by
  unfold iblk
  rw [show V m c (Pipeline.arrRef spec0 2) = truncf .bf16 (gateW m c) bitsLt_bf16_f32 from V_gateW m c]
  refine congrArg (truncf .bf16 (gateW m c) bitsLt_bf16_f32) (funext fun a => Fin.ext ?_)
  match a with
  | ⟨0, _⟩ => show 0 * 512 + 1 * k.val = k.val; omega
  | ⟨1, _⟩ => rfl

/-- The projection's weights at every point are the whole array. -/
theorem iblk_projW (t : Fin cfg0.N) (k j : Fin 512) : (iblk m c 3 t : Vec F S512x512 .f32) (ix2 k j) = projW m c (ix2 k j) := by
  unfold iblk
  rw [show V m c (Pipeline.arrRef spec0 3) = projW m c from V_main_arg3 m c]
  refine congrArg (projW m c) (funext fun a => Fin.ext ?_)
  match a with
  | ⟨0, _⟩ => show 0 * 512 + 1 * k.val = k.val; omega
  | ⟨1, _⟩ => show 0 * 512 + 1 * j.val = j.val; omega

/-- The bias row at every point is the whole bias array. -/
theorem iblk_bias (t : Fin cfg0.N) (j : Fin 512) : (iblk m c 4 t : Vec F S1x512 .f32) (ix2 0 j) = projB m c (ix1 j) := by
  unfold iblk
  rw [show V m c (Pipeline.arrRef spec0 4) = shapeCast S1x512 (projB m c) shapeCasts_S512_S1x512 from V_bias m c]
  have e : ∀ i : S1x512.Idx, i = ix2 0 j → shapeCast S1x512 (projB m c) shapeCasts_S512_S1x512 i = projB m c (ix1 j) := fun i hi => by
    subst hi; exact shapeCast_a_1a_apply _ _ _ _
  refine e _ (funext fun a => Fin.ext ?_)
  match a with
  | ⟨0, _⟩ => rfl
  | ⟨1, _⟩ => show 0 * 512 + 1 * j.val = j.val; omega

end Cert.KernelIdeal.Pool

end
-- ==== Proof.KI.Chain.lean ====
/- What the kernel's state holds after each block, on real data, and the result it stores: over a nonempty segment the
   projected weighted average plus the bias, over an empty one zero. -/
module

public import proofs.«01_k».proof.Proof.KI.Arrays
public import proofs.«01_k».proof.Proof.KI.Run

@[expose] public section

set_option maxRecDepth 16384

noncomputable section

namespace Cert.KernelIdeal.Pool

open Cert.KernelIdeal Cert.KernelIdeal.Gen Cert.PoolMaths
open Idealize.ShloMosaic Idealize.ShloMosaic.TcCoe Idealize.ShloMosaic.ValueIdx

variable (m : (ℓ : Loc nD τ sig) → Buf (Elt Ideal) ℓ) (c : Dev nD)
variable (X : Fin 50000 → Fin 512 → ℝ) (w : Fin 512 → ℝ)

/-- The weight of row `n` in segment `s` over a maximum `M`. -/
def wt (M : ℝ) (s : Fin 256) (n : Fin 50000) : ℝ :=
  if segIds m c (ix1 n) = BitVec.ofNat 32 s.val then Real.exp (gate X w n - M) else 0

/-- Moving the maximum rescales a weight. -/
theorem wt_rescale (M M' : ℝ) (s : Fin 256) (n : Fin 50000) : wt m c X w M s n * Real.exp (M - M') = wt m c X w M' s n := by
  unfold wt
  split
  · rw [← Real.exp_add]; congr 1; ring
  · exact zero_mul _

/-- THE INVARIANT: after `n` blocks the state is real, the denominators are the sums of the weights met so far and the
    sums those of the weighted rows, over some maximum. -/
theorem chain_real (hX : ∀ n k, feat m c (ix2 n k) = (X n k : EReal)) (hw : ∀ k, gateW m c (ix2 k 0) = (w k : EReal)) :
    ∀ (n : ℕ) (h : n ≤ cfg0.N), ∃ M : ℝ, IsReal (stIn m c n h) M
      (fun s => ∑ b ∈ Finset.range n, ∑ i, wt m c X w M s (row b i))
      (fun s k => ∑ b ∈ Finset.range n, ∑ i, wt m c X w M s (row b i) * X (row b i) k) := by
  intro n
  induction n with
  | zero =>
    intro h
    obtain ⟨M, hM⟩ := st0_real
    exact ⟨M, by simpa [stIn] using hM⟩
  | succ n ih =>
    intro h
    obtain ⟨M, hM⟩ := ih (Nat.le_of_succ_le h)
    obtain ⟨M', hM'⟩ := step_real (iblk m c 0 ⟨n, h⟩) (iblk m c 1 ⟨n, h⟩) (iblk m c 2 ⟨n, h⟩) (fun i k => X (row n i) k) w
      (fun i k => (iblk_feat m c ⟨n, h⟩ i k).trans (hX _ _)) (fun k => (iblk_gateW m c ⟨n, h⟩ k).trans (hw k)) _ M _ _ hM
    have hwt : ∀ s i, weight (fun i k => X (row n i) k) w (fun i => (iblk m c 1 ⟨n, h⟩ : Vec Ideal S1x1x10000 .i32) (ix3 0 0 i)) M' s i
        = wt m c X w M' s (row n i) := fun s i => by
      unfold weight wt inSeg
      exact if_congr (Iff.of_eq (congrArg (· = BitVec.ofNat 32 s.val) (iblk_ids m c ⟨n, h⟩ i))) rfl rfl
    refine ⟨M', ⟨hM'.mx, fun s => (hM'.den s).trans (congrArg Real.toEReal ?_), fun s k => (hM'.sum s k).trans (congrArg Real.toEReal ?_)⟩⟩
    · rw [Finset.sum_range_succ, Finset.sum_mul]
      refine congrArg₂ (· + ·) (Finset.sum_congr rfl fun b _ => ?_) (Finset.sum_congr rfl fun i _ => hwt s i)
      rw [Finset.sum_mul]
      exact Finset.sum_congr rfl fun i _ => wt_rescale m c X w M M' s _
    · rw [Finset.sum_range_succ, Finset.sum_mul]
      refine congrArg₂ (· + ·) (Finset.sum_congr rfl fun b _ => ?_) (Finset.sum_congr rfl fun i _ => by rw [hwt s i])
      rw [Finset.sum_mul]
      exact Finset.sum_congr rfl fun i _ => by rw [mul_right_comm, wt_rescale]

/-- The rows of segment `s`. -/
def seg (s : Fin 256) : Finset (Fin 50000) := Finset.univ.filter fun n => segIds m c (ix1 n) = BitVec.ofNat 32 s.val

/-- After the five blocks: the state over all the rows, segment by segment. -/
theorem final_real (hX : ∀ n k, feat m c (ix2 n k) = (X n k : EReal)) (hw : ∀ k, gateW m c (ix2 k 0) = (w k : EReal)) :
    ∃ M : ℝ, IsReal (stIn m c 5 five_le) M
      (fun s => ∑ n ∈ seg m c s, Real.exp (gate X w n - M))
      (fun s k => ∑ n ∈ seg m c s, Real.exp (gate X w n - M) * X n k) := by
  obtain ⟨M, hM⟩ := chain_real m c X w hX hw 5 five_le
  refine ⟨M, ⟨hM.mx, fun s => (hM.den s).trans (congrArg Real.toEReal ?_), fun s k => (hM.sum s k).trans (congrArg Real.toEReal ?_)⟩⟩
  · rw [sum_blocks (fun n => wt m c X w M s n)]
    unfold seg wt
    rw [Finset.sum_filter]
  · rw [sum_blocks (fun n => wt m c X w M s n * X n k)]
    unfold seg wt
    rw [Finset.sum_filter]
    exact Finset.sum_congr rfl fun n _ => by rw [ite_mul, zero_mul]

/-- The stored value from a real state: where the denominator is positive, the projected quotient plus the bias;
    where it is zero, zero. -/
theorem pooled_real (σ : St Ideal) (M : ℝ) (D : Fin 256 → ℝ) (A : Fin 256 → Fin 512 → ℝ) (hσ : IsReal σ M D A)
    (wf : Vec Ideal S512x512 .f32) (b : Vec Ideal S1x512 .f32) (W : Fin 512 → Fin 512 → ℝ)
    (hW : ∀ k j, wf (ix2 k j) = (W k j : EReal)) (s : Fin 256) (j : Fin 512) :
    pooled wf b σ (ix2 s j) = if 0 < D s then ((∑ k, (A s k * (1 / D s)) * W k j : ℝ) : EReal) + b (ix2 0 j) else 0 := by
  have hbr : ∀ {α : Type} (v : S256x1.Idx → α) (k : Fin 512), broadcastTo S256x512 v broadcasts_S256x1_S256x512 (ix2 s k) = v (ix2 s 0) :=
    fun v k => broadcastTo_apply _ _ _ _ fun a => by
      match a with
      | ⟨0, _⟩ => rfl
      | ⟨1, _⟩ => rfl
  have hc : cmpf (F := Ideal) (φ := .f32) .ogt σ.den (broadcast S256x1 (Scalar.ofBits .f32 0x00000000#32)) (ix2 s 0) = Ideal.cmp .ogt (D s : EReal) 0 := by
    show Ideal.cmp .ogt (σ.den (ix2 s 0)) (Ideal.ofBits .f32 0x00000000#32) = _
    rw [hσ.den, lit_zero]
  have hp : 0 < D s → Ideal.cmp .ogt (D s : EReal) 0 = 1#1 := fun h => (ogt_one _ _).mpr (EReal.coe_pos.mpr h)
  have hn : ¬0 < D s → Ideal.cmp .ogt (D s : EReal) 0 = 0#1 := fun h => eq_zero_of_ne_one fun hb => h (EReal.coe_pos.mp ((ogt_one _ _).mp hb))
  unfold pooled k0_pay3
  rw [addf_apply, select_apply, hbr, shapeCast_self, shapeCast_self, shapeCast_self, broadcastTo_1b_ab_apply, hc]
  have hinv : ∀ k, broadcastTo S256x512 (select (cmpf (F := Ideal) (φ := .f32) .ogt σ.den (broadcast S256x1 (Scalar.ofBits .f32 0x00000000#32)))
      (divf (F := Ideal) (φ := .f32) (broadcast S256x1 (Scalar.ofBits .f32 0x3F800000#32)) σ.den) (broadcast S256x1 (Scalar.ofBits (F := Ideal) .f32 0x00000000#32)))
      broadcasts_S256x1_S256x512 (ix2 s k) = if 0 < D s then ((1 / D s : ℝ) : EReal) else 0 := fun k => by
    rw [hbr, select_apply, hc]
    by_cases h : 0 < D s
    · rw [hp h, if_pos h]
      show Ideal.div (Ideal.ofBits .f32 0x3F800000#32) (σ.den (ix2 s 0)) = _
      rw [Ideal.ofBits_one_f32, hσ.den, ← EReal.coe_one, div_coe _ _ h.ne']
    · rw [hn h, if_neg h]
      exact lit_zero
  have hmm := Ideal.matmul_plain_apply (φ₂ := .f32) none (mulf (F := Ideal) (φ := .f32) σ.sum (broadcastTo S256x512 (select (cmpf (F := Ideal) (φ := .f32) .ogt σ.den (broadcast S256x1 (Scalar.ofBits .f32 0x00000000#32)))
      (divf (F := Ideal) (φ := .f32) (broadcast S256x1 (Scalar.ofBits .f32 0x3F800000#32)) σ.den) (broadcast S256x1 (Scalar.ofBits (F := Ideal) .f32 0x00000000#32)))
      broadcasts_S256x1_S256x512) : FVec Ideal S256x512 .f32) wf (constant S256x512 .f32 0x00000000#32) s j
  rw [show (constant S256x512 .f32 0x00000000#32 : FVec Ideal S256x512 .f32) (ix2 s j) = 0 from lit_zero, zero_add] at hmm
  simp only [mulf_apply, hinv, hσ.sum, hW] at hmm
  refine (congrArg₂ HAdd.hAdd hmm rfl).trans ?_
  by_cases h : 0 < D s
  · rw [hp h, if_pos h, select_one]
    simp only [if_pos h, ← EReal.coe_mul]
    rw [← coe_sum]
  · rw [hn h, if_neg h, select_zero]
    simp only [if_neg h, mul_zero, zero_mul, Finset.sum_const_zero, zero_add]
    exact lit_zero

/-- THE KERNEL'S VALUE at a nonempty segment. -/
theorem result_nonempty (hX : ∀ n k, feat m c (ix2 n k) = (X n k : EReal)) (hw : ∀ k, gateW m c (ix2 k 0) = (w k : EReal))
    (W : Fin 512 → Fin 512 → ℝ) (hW : ∀ k j, projW m c (ix2 k j) = (W k j : EReal)) (s : Fin 256) (hs : (seg m c s).Nonempty) :
    ∃ M : ℝ, ∀ j : Fin 512, (result m c : Vec Ideal S256x512 .f32) (ix2 s j)
      = ((∑ k, ((∑ n ∈ seg m c s, Real.exp (gate X w n - M) * X n k) * (1 / ∑ n ∈ seg m c s, Real.exp (gate X w n - M))) * W k j : ℝ) : EReal)
        + projB m c (ix1 j) := by
  obtain ⟨M, hM⟩ := final_real m c X w hX hw
  refine ⟨M, fun j => (pooled_real _ M _ _ hM (iblk m c 3 t0_4) (iblk m c 4 t0_4) W
    (fun k j => (iblk_projW m c t0_4 k j).trans (hW k j)) s j).trans ?_⟩
  rw [if_pos (sum_exp_pos hs _ M), iblk_bias]

/-- THE KERNEL'S VALUE at an empty segment. -/
theorem result_empty (hX : ∀ n k, feat m c (ix2 n k) = (X n k : EReal)) (hw : ∀ k, gateW m c (ix2 k 0) = (w k : EReal))
    (W : Fin 512 → Fin 512 → ℝ) (hW : ∀ k j, projW m c (ix2 k j) = (W k j : EReal)) (s : Fin 256) (hs : seg m c s = ∅) (j : Fin 512) :
    (result m c : Vec Ideal S256x512 .f32) (ix2 s j) = (0 : EReal) := by
  obtain ⟨M, hM⟩ := final_real m c X w hX hw
  refine (pooled_real _ M _ _ hM (iblk m c 3 t0_4) (iblk m c 4 t0_4) W
    (fun k j => (iblk_projW m c t0_4 k j).trans (hW k j)) s j).trans ?_
  rw [hs, Finset.sum_empty, if_neg (lt_irrefl _)]

end Cert.KernelIdeal.Pool

end
-- ==== Proof.Ref.lean ====
/- The reference read at an index on real data: the gate, the segments' finite maxima, the exponentials, the
   denominators gathered back by segment, and the result as a sum over the segment's rows. -/
module

public import proofs.«01_k».proof.Proof.Gen.ReferenceIdeal.Run
public import proofs.«01_k».proof.Proof.Maths
public import Idealize.ShloMosaic.Lib.ValueIdx
public import Idealize.ShloMosaic.Lib.ValueIdxRank1
public import Idealize.ShloMosaic.Lib.IdealHost
public import Idealize.ShloMosaic.Lib.ValueLayout
public import Idealize.ShloMosaic.Lib.StackMember
public import Idealize.ShloMosaic.Lib.StableHlo.Predicate
public import Idealize.ShloMosaic.Lib.Routing.OpsPair

@[expose] public section

set_option maxRecDepth 16384

noncomputable section

namespace Cert.ReferenceIdeal.Pool

open Cert.ReferenceIdeal Cert.ReferenceIdeal.Gen Cert.PoolMaths
open Idealize.ShloMosaic Idealize.ShloMosaic.TcCoe Idealize.ShloMosaic.ValueIdx

/-- The gate vector: features against weights, plus the gate's bias. -/
def gateV (x : FVec Ideal S50000x512 .f32) (wg : FVec Ideal S512x1 .f32) (bg : FVec Ideal S1 .f32) : FVec Ideal S50000 .f32 :=
  shapeCast _ (addf (Host.dotGeneral dot_S50000x512_S512x1_S50000x1_1_0_0_1_n_n none x wg)
    (broadcastInDim S50000x1 ![0, 1] bcast_S1x1_S50000x1_0_1 (broadcastInDim S1x1 ![1] bcast_S1_S1x1_1 bg))) shapeCasts_S50000x1_S50000

/-- The segments' maxima before the infinite ones are replaced. -/
def rawMax (g : FVec Ideal S50000 .f32) (ids : IVec S50000 32) : FVec Ideal S256 .f32 :=
  Host.reduce FloatOps.maximumf (select (cmpi .eq (broadcastInDim S256x50000 ![0, 1] bcast_S256x1_S256x50000_0_1 (broadcastInDim S256x1 ![0] bcast_S256_S256x1_0 (iotaInDim S256 32 0)))
      (broadcastInDim S256x50000 ![0, 1] bcast_S1x50000_S256x50000_0_1 (broadcastInDim S1x50000 ![1] bcast_S50000_S1x50000_1 ids)))
    (broadcastInDim S256x50000 ![0, 1] bcast_S1x50000_S256x50000_0_1 (broadcastInDim S1x50000 ![1] bcast_S50000_S1x50000_1 g))
    (broadcastInDim S256x50000 ![] bcast_S_S256x50000 (id (constant S_ .f32 0xFF800000#32)))) (constant S_ .f32 0xFF800000#32)
    reducesTo_S256x50000_S256_d1 h_S_

/-- The maxima with zero in place of every infinite one. -/
def finMax (mx : FVec Ideal S256 .f32) : FVec Ideal S256 .f32 :=
  select (cmpf .olt (Host.absf mx) (broadcastInDim S256 ![] bcast_S_S256 (constant S_ .f32 0x7F800000#32))) mx
    (broadcastInDim S256 ![] bcast_S_S256 (id (constant S_ .f32 0x00000000#32)))

/-- The segment numbers as a column. -/
def column (ids : IVec S50000 32) : IVec S50000x1 32 := broadcastInDim S50000x1 ![0] bcast_S50000_S50000x1_0 ids

/-- The segment numbers counted from the end where negative. -/
def wrapped (ids : IVec S50000 32) : IVec S50000 32 :=
  select (cmpi .slt ids (broadcastInDim S50000 ![] bcast_S_S50000 (constantI S_ 32 0#32)))
    (addi ids (broadcastInDim S50000 ![] bcast_S_S50000 (constantI S_ 32 256#32))) ids

/-- A value per segment read back at every row's segment. -/
def perRow (v : FVec Ideal S256 .f32) (ids : IVec S50000 32) : FVec Ideal S50000 .f32 :=
  Host.gather gather_S256_S50000x1_S50000_n_0_n_n_0_1_1 v (column (wrapped ids))

/-- The exponentials of the gates above their segments' maxima. -/
def expV (g : FVec Ideal S50000 .f32) (mx : FVec Ideal S256 .f32) (ids : IVec S50000 32) : FVec Ideal S50000 .f32 :=
  Host.exp (subf g (perRow mx ids))

/-- The segments' sums of a value per row. -/
def segSum (e : FVec Ideal S50000 .f32) (ids : IVec S50000 32) : FVec Ideal S256 .f32 :=
  Host.scatterAdd scatter_S256_S50000x1_S50000_n_0_0_1 (broadcastInDim S256 ![] bcast_S_S256 (constant S_ .f32 0x00000000#32)) (column ids) e

/-- The projected rows, each with the bias. -/
def projV (x : FVec Ideal S50000x512 .f32) (wf : FVec Ideal S512x512 .f32) (bf : FVec Ideal S512 .f32) : FVec Ideal S50000x512 .f32 :=
  addf (Host.dotGeneral dot_S50000x512_S512x512_S50000x512_1_0_0_1_n_n none x wf)
    (broadcastInDim S50000x512 ![0, 1] bcast_S1x512_S50000x512_0_1 (broadcastInDim S1x512 ![1] bcast_S512_S1x512_1 bf))

/-- The reference's result from a vector of exponentials. -/
def outV (y : FVec Ideal S50000x512 .f32) (e : FVec Ideal S50000 .f32) (ids : IVec S50000 32) : FVec Ideal S256x512 .f32 :=
  Host.scatterAdd scatter_S256x512_S50000x1_S50000x512_1_0_0_1 (broadcastInDim S256x512 ![] bcast_S_S256x512 (constant S_ .f32 0x00000000#32)) (column ids)
    (mulf y (broadcastInDim S50000x512 ![0, 1] bcast_S50000x1_S50000x512_0_1 (broadcastInDim S50000x1 ![0] bcast_S50000_S50000x1_0
      (Host.divf e (perRow (segSum e ids) ids)))))

/-- The rows of segment `s`. -/
def seg (ids : IVec S50000 32) (s : Fin 256) : Finset (Fin 50000) := Finset.univ.filter fun n => ids (ix1 n) = BitVec.ofNat 32 s.val

/-- A word is the segment's number exactly when it reads, signed, as that number. -/
theorem toInt_eq_iff (b : BitVec 32) (s : Fin 256) : b.toInt = (s.val : ℤ) ↔ b = BitVec.ofNat 32 s.val := by
  have h := StableHlo.Predicate.toInt_ofNat_small s.val (by have := s.isLt; omega)
  exact ⟨fun e => BitVec.eq_of_toInt_eq (e.trans h.symm), fun e => by rw [e, h]⟩

/-- A column read at a row. -/
theorem column_apply (ids : IVec S50000 32) (n : Fin 50000) : column ids (ix2 n 0) = ids (ix1 n) :=
  broadcastInDim_apply _ _ _ _ _ fun a => by match a with | ⟨0, _⟩ => rfl

/-- The gate read at a row, on real data. -/
theorem gateV_real (x : FVec Ideal S50000x512 .f32) (wg : FVec Ideal S512x1 .f32) (bg : FVec Ideal S1 .f32)
    (X : Fin 50000 → Fin 512 → ℝ) (w : Fin 512 → ℝ) (β : ℝ) (hX : ∀ n k, x (ix2 n k) = (X n k : EReal))
    (hw : ∀ k, wg (ix2 k 0) = (w k : EReal)) (hβ : bg (ix1 0) = (β : EReal)) (n : Fin 50000) :
    gateV x wg bg (ix1 n) = ((gate X w n + β : ℝ) : EReal) := by
  unfold gateV
  refine (shapeCast_apply _ _ _ (ix2 n 0) ?_).trans ?_
  · rw [Shape.rowMajor_val_two, Shape.rowMajor_val_one]
    show n.val * 1 + 0 = n.val
    omega
  rw [addf_apply, EReal.coe_add]
  refine congrArg₂ (· + ·) ((StackMember.dotGeneral_plain_apply none x wg n 0).trans ?_) ?_
  · unfold gate
    rw [← sum_mul_coe]
    exact Finset.sum_congr rfl fun k _ => by rw [hX, hw]
  · rw [← hβ]
    refine (broadcastInDim_apply _ _ _ _ (ix2 0 0) fun a => by match a with | ⟨0, _⟩ => rfl | ⟨1, _⟩ => rfl).trans ?_
    exact broadcastInDim_apply _ _ _ _ _ fun a => by match a with | ⟨0, _⟩ => rfl

/-- Every replaced maximum is a real. -/
theorem finMax_real (mx : FVec Ideal S256 .f32) (s : Fin 256) : ∃ r : ℝ, finMax mx (ix1 s) = (r : EReal) := by
  unfold finMax
  rw [select_apply]
  have hc : cmpf .olt (Host.absf mx) (broadcastInDim S256 ![] bcast_S_S256 (constant S_ .f32 0x7F800000#32)) (ix1 s)
      = Ideal.cmp .olt (max (mx (ix1 s)) (-mx (ix1 s))) (Ideal.ofBits .f32 0x7F800000#32) := rfl
  have ht : Ideal.ofBits .f32 0x7F800000#32 = ⊤ := by simp [Ideal.ofBits, Ideal.ieee]
  rw [hc, ht]
  by_cases h : max (mx (ix1 s)) (-mx (ix1 s)) < (⊤ : EReal)
  · obtain ⟨r, hr⟩ := exists_real_of_abs_lt_top h
    refine ⟨r, ?_⟩
    rw [show Ideal.cmp .olt (max (mx (ix1 s)) (-mx (ix1 s))) ⊤ = 1#1 by unfold Ideal.cmp; simp [h], select_one, hr]
  · refine ⟨0, ?_⟩
    rw [show Ideal.cmp .olt (max (mx (ix1 s)) (-mx (ix1 s))) ⊤ = 0#1 by unfold Ideal.cmp; simp [h], select_zero]
    exact Ideal.ofBits_zero_f32

/-- A row of a segment reads back its own segment's value. -/
theorem perRow_apply (v : FVec Ideal S256 .f32) (ids : IVec S50000 32) (s : Fin 256) (n : Fin 50000) (hn : n ∈ seg ids s) :
    perRow v ids (ix1 n) = v (ix1 s) := by
  have hid : ids (ix1 n) = BitVec.ofNat 32 s.val := (Finset.mem_filter.mp hn).2
  have hti := (toInt_eq_iff _ s).mpr hid
  have hw : wrapped ids (ix1 n) = ids (ix1 n) := by
    show Scalar.select (IntOp.cmpi .slt (ids (ix1 n)) 0#32) _ (ids (ix1 n)) = ids (ix1 n)
    exact Routing.wrap_of_lt _ _ (by rw [hid]; have := s.isLt; simp; omega)
  have e1 : (ix1 n : S50000.Idx) = Shape.Idx.ofFin n := (eq_ix1 (Shape.Idx.ofFin n)).symm
  unfold perRow
  rw [e1]
  refine (StableHlo.Predicate.gather_take gather_S256_S50000x1_S50000_n_0_n_n_0_1_1 rfl rfl rfl rfl v _ n (by norm_num)).trans ?_
  refine congrArg v ?_
  have hc : column (wrapped ids) (StableHlo.Predicate.ixP n) = ids (ix1 n) := by
    rw [show (StableHlo.Predicate.ixP n : S50000x1.Idx) = ix2 n 0 from eq_ix2 _, column_apply, hw]
  rw [eq_ix1 (Shape.Idx.ofFin _)]
  refine congrArg ix1 (Fin.ext ?_)
  show min (column (wrapped ids) (StableHlo.Predicate.ixP n)).toInt.toNat (256 - 1) = s.val
  rw [hc, hti]
  have := s.isLt
  simp; omega

/-- Where an update of the one-coordinate scatter lands. -/
theorem lands1 (idx : IVec S50000x1 32) (n : Fin 50000) (s : Fin 256) :
    scatter_S256_S50000x1_S50000_n_0_0_1.resultIdx? (ix1 n) idx = some (ix1 s) ↔ (idx (ix2 n 0)).toInt = (s.val : ℤ) := by
  have hs : scatter_S256_S50000x1_S50000_n_0_0_1.start (ix1 n) idx 0 = (idx (ix2 n 0)).toInt := by
    unfold ScatterDims.start
    rw [dif_pos (show (0 : Fin 1) ∈ scatter_S256_S50000x1_S50000_n_0_0_1.scatterDimsToOperandDims from List.mem_singleton.mpr rfl)]
    refine congrArg (fun i => (idx i).toInt) (funext fun b => ?_)
    match b with
    | ⟨0, _⟩ => rfl
    | ⟨1, _⟩ => rfl
  have hw : scatter_S256_S50000x1_S50000_n_0_0_1.window (ix1 n) 0 = 0 := rfl
  rw [Routing.resultIdx?_ix1, hs, hw]
  simp

/-- Where an update of the row scatter lands. -/
theorem lands2 (idx : IVec S50000x1 32) (n : Fin 50000) (k : Fin 512) (s : Fin 256) (j : Fin 512) :
    scatter_S256x512_S50000x1_S50000x512_1_0_0_1.resultIdx? (ix2 n k) idx = some (ix2 s j)
      ↔ (idx (ix2 n 0)).toInt = (s.val : ℤ) ∧ k = j := by
  have hs : scatter_S256x512_S50000x1_S50000x512_1_0_0_1.start (ix2 n k) idx 0 = (idx (ix2 n 0)).toInt := by
    unfold ScatterDims.start
    rw [dif_pos (show (0 : Fin 2) ∈ scatter_S256x512_S50000x1_S50000x512_1_0_0_1.scatterDimsToOperandDims from List.mem_singleton.mpr rfl)]
    refine congrArg (fun i => (idx i).toInt) (funext fun b => ?_)
    match b with
    | ⟨0, _⟩ => rfl
    | ⟨1, _⟩ => rfl
  have hs1 : scatter_S256x512_S50000x1_S50000x512_1_0_0_1.start (ix2 n k) idx 1 = 0 := rfl
  have hw : scatter_S256x512_S50000x1_S50000x512_1_0_0_1.window (ix2 n k) 0 = 0 := rfl
  have hw1 : scatter_S256x512_S50000x1_S50000x512_1_0_0_1.window (ix2 n k) 1 = k.val := rfl
  rw [Routing.resultIdx?_ix2, hs, hs1, hw, hw1]
  simp [Fin.ext_iff]

/-- The segments' sums, read at a segment. -/
theorem segSum_apply (e : FVec Ideal S50000 .f32) (ids : IVec S50000 32) (s : Fin 256) :
    segSum e ids (ix1 s) = ∑ n ∈ seg ids s, e (ix1 n) := by
  show Ideal.ofBits .f32 0x00000000#32 + ∑ j ∈ Finset.univ.filter (fun j => scatter_S256_S50000x1_S50000_n_0_0_1.resultIdx? j (column ids) = some (ix1 s)), e j = _
  rw [Ideal.ofBits_zero_f32, zero_add, Finset.sum_filter, ← Equiv.sum_comp (idxEquiv1 (n := 50000)).symm]
  unfold seg
  rw [Finset.sum_filter]
  refine Finset.sum_congr rfl fun n _ => if_congr ?_ rfl rfl
  show scatter_S256_S50000x1_S50000_n_0_0_1.resultIdx? (ix1 n) (column ids) = some (ix1 s) ↔ _
  rw [lands1, column_apply, toInt_eq_iff]

/-- The row scatter, read at an entry: the updates of the segment's rows. -/
theorem rowScatter_apply (u : FVec Ideal S50000x512 .f32) (ids : IVec S50000 32) (s : Fin 256) (j : Fin 512) :
    Host.scatterAdd scatter_S256x512_S50000x1_S50000x512_1_0_0_1 (broadcastInDim S256x512 ![] bcast_S_S256x512 (constant S_ .f32 0x00000000#32))
      (column ids) u (ix2 s j) = ∑ n ∈ seg ids s, u (ix2 n j) := by
  show Ideal.ofBits .f32 0x00000000#32 + ∑ i ∈ Finset.univ.filter (fun i => scatter_S256x512_S50000x1_S50000x512_1_0_0_1.resultIdx? i (column ids) = some (ix2 s j)), u i = _
  rw [Ideal.ofBits_zero_f32, zero_add, Finset.sum_filter, sum_idx2]
  unfold seg
  rw [Finset.sum_filter]
  refine Finset.sum_congr rfl fun n _ => ?_
  have hl : ∀ k : Fin 512, (if scatter_S256x512_S50000x1_S50000x512_1_0_0_1.resultIdx? (ix2 n k) (column ids) = some (ix2 s j) then u (ix2 n k) else 0)
      = if k = j then (if ids (ix1 n) = BitVec.ofNat 32 s.val then u (ix2 n k) else 0) else 0 := fun k => by
    rw [if_congr ((lands2 (column ids) n k s j).trans (and_congr (by rw [column_apply, toInt_eq_iff]) Iff.rfl)) rfl rfl, ite_and]
    by_cases h : k = j <;> simp [h]
  rw [Finset.sum_congr rfl fun k _ => hl k, Finset.sum_ite_eq' Finset.univ j]
  simp

/-- The projected row read at an entry, on real data. -/
theorem projV_real (x : FVec Ideal S50000x512 .f32) (wf : FVec Ideal S512x512 .f32) (bf : FVec Ideal S512 .f32)
    (X : Fin 50000 → Fin 512 → ℝ) (W : Fin 512 → Fin 512 → ℝ) (hX : ∀ n k, x (ix2 n k) = (X n k : EReal))
    (hW : ∀ k j, wf (ix2 k j) = (W k j : EReal)) (n : Fin 50000) (j : Fin 512) :
    projV x wf bf (ix2 n j) = ((∑ k, X n k * W k j : ℝ) : EReal) + bf (ix1 j) := by
  unfold projV
  rw [addf_apply]
  refine congrArg₂ (· + ·) ((StackMember.dotGeneral_plain_apply none x wf n j).trans ?_) ?_
  · rw [← sum_mul_coe]
    exact Finset.sum_congr rfl fun k _ => by rw [hX, hW]
  · refine (broadcastInDim_apply _ _ _ _ (ix2 0 j) fun a => by match a with | ⟨0, _⟩ => rfl | ⟨1, _⟩ => rfl).trans ?_
    exact broadcastInDim_apply _ _ _ _ _ fun a => by match a with | ⟨0, _⟩ => rfl

/-- The result from exponentials that are positive reals on the segment's rows: the weighted sum over the segment. -/
theorem outV_real (y : FVec Ideal S50000x512 .f32) (e : FVec Ideal S50000 .f32) (ids : IVec S50000 32) (s : Fin 256)
    (E : Fin 50000 → ℝ) (hE : ∀ n ∈ seg ids s, e (ix1 n) = (E n : EReal)) (hpos : ∀ n, 0 < E n) (j : Fin 512) :
    outV y e ids (ix2 s j) = ∑ n ∈ seg ids s, y (ix2 n j) * ((E n / ∑ i ∈ seg ids s, E i : ℝ) : EReal) := by
  unfold outV
  rw [rowScatter_apply]
  refine Finset.sum_congr rfl fun n hn => ?_
  rw [mulf_apply]
  refine congrArg (y (ix2 n j) * ·) ?_
  refine (broadcastInDim_apply _ _ _ _ (ix2 n 0) fun a => by match a with | ⟨0, _⟩ => rfl | ⟨1, _⟩ => rfl).trans ?_
  refine (broadcastInDim_apply _ _ _ _ (ix1 n) fun a => by match a with | ⟨0, _⟩ => rfl).trans ?_
  rw [hostDivf_apply, perRow_apply _ _ s n hn, segSum_apply, hE n hn, Finset.sum_congr rfl hE, ← coe_sum]
  exact div_coe _ _ (Finset.sum_pos (fun i _ => hpos i) ⟨n, hn⟩).ne'

variable (m : (ℓ : Loc nD τ sig) → Buf (Elt Ideal) ℓ) (c : Dev nD)

/-- The reference's result is the composition of the parts named here. -/
theorem res_eq : Value.res_main_v47 m c =
    outV (projV (m ((c.tc : Thread nD τ).loc main_arg0)) (m ((c.tc : Thread nD τ).loc main_arg3)) (m ((c.tc : Thread nD τ).loc main_arg4)))
      (expV (gateV (m ((c.tc : Thread nD τ).loc main_arg0)) (m ((c.tc : Thread nD τ).loc main_arg1)) (m ((c.tc : Thread nD τ).loc main_arg2)))
        (finMax (rawMax (gateV (m ((c.tc : Thread nD τ).loc main_arg0)) (m ((c.tc : Thread nD τ).loc main_arg1)) (m ((c.tc : Thread nD τ).loc main_arg2)))
          (m ((c.tc : Thread nD τ).loc main_arg5)))) (m ((c.tc : Thread nD τ).loc main_arg5)))
      (m ((c.tc : Thread nD τ).loc main_arg5)) := rfl

/-- THE REFERENCE'S VALUE: at each segment some real `μ`, and the segment's rows, projected and with the bias, weighted by
    their exponentials over `μ` divided by the segment's sum of them. -/
theorem res_real (X : Fin 50000 → Fin 512 → ℝ) (w : Fin 512 → ℝ) (β : ℝ) (W : Fin 512 → Fin 512 → ℝ)
    (hX : ∀ n k, (m ((c.tc : Thread nD τ).loc main_arg0) : FVec Ideal S50000x512 .f32) (ix2 n k) = (X n k : EReal))
    (hw : ∀ k, (m ((c.tc : Thread nD τ).loc main_arg1) : FVec Ideal S512x1 .f32) (ix2 k 0) = (w k : EReal))
    (hβ : (m ((c.tc : Thread nD τ).loc main_arg2) : FVec Ideal S1 .f32) (ix1 0) = (β : EReal))
    (hW : ∀ k j, (m ((c.tc : Thread nD τ).loc main_arg3) : FVec Ideal S512x512 .f32) (ix2 k j) = (W k j : EReal)) (s : Fin 256) :
    ∃ μ : ℝ, ∀ j : Fin 512, (Value.res_main_v47 m c : FVec Ideal S256x512 .f32) (ix2 s j)
      = ∑ n ∈ seg (m ((c.tc : Thread nD τ).loc main_arg5)) s,
          (((∑ k, X n k * W k j : ℝ) : EReal) + (m ((c.tc : Thread nD τ).loc main_arg4) : FVec Ideal S512 .f32) (ix1 j))
          * ((Real.exp (gate X w n + β - μ) / ∑ i ∈ seg (m ((c.tc : Thread nD τ).loc main_arg5)) s, Real.exp (gate X w i + β - μ) : ℝ) : EReal) := by
  obtain ⟨μ, hμ⟩ := finMax_real (rawMax (gateV (m ((c.tc : Thread nD τ).loc main_arg0)) (m ((c.tc : Thread nD τ).loc main_arg1))
    (m ((c.tc : Thread nD τ).loc main_arg2))) (m ((c.tc : Thread nD τ).loc main_arg5))) s
  refine ⟨μ, fun j => ?_⟩
  rw [res_eq]
  refine (outV_real _ _ _ s (fun n => Real.exp (gate X w n + β - μ)) (fun n hn => ?_) (fun n => Real.exp_pos _) j).trans ?_
  · unfold expV
    show Ideal.exp (gateV _ _ _ (ix1 n) - perRow _ _ (ix1 n)) = _
    rw [perRow_apply _ _ s n hn, hμ, gateV_real _ _ _ X w β hX hw hβ, ← EReal.coe_sub]
    rfl
  · exact Finset.sum_congr rfl fun n _ => by rw [projV_real _ _ _ X W hX hW]

end Cert.ReferenceIdeal.Pool

end
-- ==== Proof.Value.lean ====
/- The equation of the two results: the precondition read as "every entry is a real number", then, segment by segment,
   what the kernel wrote against what the reference computes. -/
module

public import proofs.«01_k».proof.Defs
public import proofs.«01_k».proof.Proof.KI.Chain
public import proofs.«01_k».proof.Proof.Ref

@[expose] public section

set_option maxRecDepth 16384

noncomputable section

namespace Cert.Equation

open Idealize.ShloMosaic Idealize.ShloMosaic.TcCoe Idealize.ShloMosaic.ValueIdx
open Cert.KernelIdeal.Pool (feat gateW projW projB segIds)

/-- The shape relations the precondition states. -/
theorem preFacts : Cert.Pre_finite_operands.Facts where
  bcast_S_S50000x512 := by decide
  bcast_S_S512x1 := by decide
  bcast_S_S1 := by decide
  bcast_S_S512x512 := by decide

/-- The constant the precondition compares with is the infinity. -/
theorem lit_top : Ideal.ofBits .f32 0x7F800000#32 = ⊤ := by simp [Ideal.ofBits, Ideal.ieee]

/-- An array whose magnitudes all compare below the infinity holds reals. -/
theorem real_of_below {sh : Shape} (v : FVec Ideal sh .f32) (h : (⟨0, ![]⟩ : Shape).BroadcastsInDim sh (![] : Fin 0 → Fin sh.rank))
    (e : cmpf .olt (Host.absf v) (broadcastInDim sh ![] h (constant (F := Ideal) ⟨0, ![]⟩ .f32 0x7F800000#32)) = fun _ => 1#1) (i : sh.Idx) :
    ∃ r : ℝ, v i = (r : EReal) := by
  have hi : Ideal.cmp .olt (max (v i) (-(v i))) (Ideal.ofBits .f32 0x7F800000#32) = 1#1 := congrFun e i
  rw [lit_top] at hi
  refine Cert.PoolMaths.exists_real_of_abs_lt_top ?_
  by_contra hn
  simp [Ideal.cmp, hn] at hi

section
open Cert.KernelIdeal
variable (m : (ℓ : Loc nD τ sig) → Buf (Elt Ideal) ℓ) (c : Dev nD)

/-- The launch array of the gate's bias. -/
abbrev gateB : Vec Ideal S1 .f32 := m ((c : Thread nD τ).loc main_arg2)

/-- Under the precondition features, both weights and the gate's bias are arrays of reals. -/
theorem real_operands (h : Cert.Pre_KernelIdeal_finite_operands (hPre_finite_operands := preFacts) m) :
    ∃ (X : Fin 50000 → Fin 512 → ℝ) (w : Fin 512 → ℝ) (β : ℝ) (W : Fin 512 → Fin 512 → ℝ),
      (∀ n k, feat m c (ix2 n k) = (X n k : EReal)) ∧ (∀ k, gateW m c (ix2 k 0) = (w k : EReal))
      ∧ gateB m c (ix1 0) = (β : EReal) ∧ (∀ k j, projW m c (ix2 k j) = (W k j : EReal)) := by
  obtain ⟨h0, h1, h2, h3⟩ := h c
  choose X hX using fun (n : Fin 50000) (k : Fin 512) => real_of_below (feat m c) _ h0 (ix2 n k)
  choose w hw using fun k : Fin 512 => real_of_below (gateW m c) _ h1 (ix2 k 0)
  obtain ⟨β, hβ⟩ := real_of_below (gateB m c) _ h2 (ix1 0)
  choose W hW using fun k j : Fin 512 => real_of_below (projW m c) _ h3 (ix2 k j)
  exact ⟨X, w, β, W, hX, hw, hβ, hW⟩
end

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- THE EQUATION: on equal arguments of which features, weights and the gate's bias are finite, the reference's result is
    the array the kernel wrote. -/
theorem results_eq (h : Cert.Pre_KernelIdeal_finite_operands (hPre_finite_operands := preFacts) m)
    (e0 : m' ((c.tc : Thread Cert.ReferenceIdeal.nD Cert.ReferenceIdeal.τ).loc Cert.ReferenceIdeal.main_arg0) = feat m c)
    (e1 : m' ((c.tc : Thread Cert.ReferenceIdeal.nD Cert.ReferenceIdeal.τ).loc Cert.ReferenceIdeal.main_arg1) = gateW m c)
    (e2 : m' ((c.tc : Thread Cert.ReferenceIdeal.nD Cert.ReferenceIdeal.τ).loc Cert.ReferenceIdeal.main_arg2) = gateB m c)
    (e3 : m' ((c.tc : Thread Cert.ReferenceIdeal.nD Cert.ReferenceIdeal.τ).loc Cert.ReferenceIdeal.main_arg3) = projW m c)
    (e4 : m' ((c.tc : Thread Cert.ReferenceIdeal.nD Cert.ReferenceIdeal.τ).loc Cert.ReferenceIdeal.main_arg4) = projB m c)
    (e5 : m' ((c.tc : Thread Cert.ReferenceIdeal.nD Cert.ReferenceIdeal.τ).loc Cert.ReferenceIdeal.main_arg5) = segIds m c) :
    (Cert.ReferenceIdeal.Value.res_main_v47 m' c : FVec Ideal Cert.ReferenceIdeal.S256x512 .f32) = Cert.KernelIdeal.Pool.result m c := by
  obtain ⟨X, w, β, W, hX, hw, hβ, hW⟩ := real_operands m c h
  funext i
  rw [eq_ix2 i]
  obtain ⟨μ, hμ⟩ := Cert.ReferenceIdeal.Pool.res_real m' c X w β W (fun n k => (congrFun e0 _).trans (hX n k))
    (fun k => (congrFun e1 _).trans (hw k)) ((congrFun e2 _).trans hβ) (fun k j => (congrFun e3 _).trans (hW k j)) (i 0)
  refine (hμ (i 1)).trans ?_
  have hseg : Cert.ReferenceIdeal.Pool.seg (m' ((c.tc : Thread Cert.ReferenceIdeal.nD Cert.ReferenceIdeal.τ).loc Cert.ReferenceIdeal.main_arg5)) (i 0)
      = Cert.KernelIdeal.Pool.seg m c (i 0) := congrArg (fun ids => Cert.ReferenceIdeal.Pool.seg ids (i 0)) e5
  have hb : (m' ((c.tc : Thread Cert.ReferenceIdeal.nD Cert.ReferenceIdeal.τ).loc Cert.ReferenceIdeal.main_arg4) : FVec Ideal Cert.ReferenceIdeal.S512 .f32)
      (ix1 (i 1)) = projB m c (ix1 (i 1)) := congrFun e4 _
  rw [hseg, hb]
  rcases (Cert.KernelIdeal.Pool.seg m c (i 0)).eq_empty_or_nonempty with hs | hs
  · rw [hs, Finset.sum_empty]
    exact (Cert.KernelIdeal.Pool.result_empty m c X w hX hw W hW (i 0) hs (i 1)).symm
  · obtain ⟨M, hM⟩ := Cert.KernelIdeal.Pool.result_nonempty m c X w hX hw W hW (i 0) hs
    exact ((hM (i 1)).trans (Cert.PoolMaths.pooled_eq hs X (Cert.PoolMaths.gate X w) (fun k => W k (i 1)) β M μ _)).symm

end Cert.Equation

end
-- ==== Proof.lean ====
/- The claims assembled: the frames of the kernel, of its ideal reading and of the reference, and the equality of the two
   programs' results in exact arithmetic. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.K.Frame
public import proofs.«01_k».proof.Proof.KI.Frame
public import proofs.«01_k».proof.Proof.KI.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's frame. -/
theorem frame_kernel : Cert.quiescent_Kernel := fun m ρ _ => Cert.Kernel.Pool.frame_run m ρ

/-- The frame of the kernel in exact arithmetic. -/
theorem frame_kernelIdeal : Cert.quiescent_KernelIdeal := fun m ρ _ => Cert.KernelIdeal.Pool.frame_run m ρ

/-- The frame of the reference in exact arithmetic. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel in exact arithmetic and the reference, from equal arguments of which the features, both weights and the
    gate's bias are finite, end with equal results: the array the kernel wrote. -/
theorem algebraic : Cert.algebraic_KernelIdeal_ReferenceIdeal_pre_finite_operands (hPre_finite_operands := Cert.Equation.preFacts) :=
  fun m ρ m' ρ' hpre hargs => ⟨fun c => Cert.KernelIdeal.Pool.result m c, Cert.KernelIdeal.Pool.run_value m ρ,
    (θ_run Cert.ReferenceIdeal.defs _ _).mono
      (fun r h c => ⟨(h c).1.trans (by
        obtain ⟨e0, e1, e2, e3, e4, e5⟩ := hargs c
        exact Cert.Equation.results_eq m m' c hpre e0 e1 e2 e3 e4 e5), (h c).2⟩)
      (Cert.ReferenceIdeal.Value.run (F := Ideal) m' ρ')⟩

/-- Every claim. -/
theorem claim : Cert.Claim := ⟨Cert.Kernel.Gen.facts, Cert.KernelIdeal.Gen.facts, Cert.ReferenceIdeal.Gen.facts, Cert.Equation.preFacts,
  frame_kernel, frame_kernelIdeal, fun m ρ _ => frame_kernelIdeal m ρ trivial, frame_referenceIdeal,
  fun m ρ _ => frame_referenceIdeal m ρ trivial, trivial, algebraic⟩

end Cert.Proof

end
